-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S4 : Shape := ⟨1, ![4]⟩
abbrev S_ : Shape := ⟨0, ![]⟩
abbrev S1024x8192 : Shape := ⟨2, ![1024, 8192]⟩
abbrev S1024x2048 : Shape := ⟨2, ![1024, 2048]⟩
abbrev S1 : Shape := ⟨1, ![1]⟩
abbrev S4x1024x2048 : Shape := ⟨3, ![4, 1024, 2048]⟩
abbrev S4x1024x1024 : Shape := ⟨3, ![4, 1024, 1024]⟩
abbrev S2x1024x2048 : Shape := ⟨3, ![2, 1024, 2048]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 14
  | .vmem => 7
  | .smem => 1
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S1024x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x2048, .bf16⟩
  | .local _ .vmem, ⟨5, _⟩ => ⟨S4x1024x1024, .bf16⟩
  | .local _ .vmem, ⟨6, _⟩ => ⟨S2x1024x2048, .bf16⟩
  | .local _ .smem, ⟨0, _⟩ => ⟨S4, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v9 : Ref sig .tc := ⟨.hbm, 13, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨1, ![17], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c15_i32 : BitVec 32 := 15#32
  let v0 : BitVec 32 := Scalar.minsi arg0 c15_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v18 : Index := Scalar.indexCast v17
  ![v18.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v26 : BitVec 32 := Scalar.addi v2 c1_i32_9
  let c4_i32_10 : BitVec 32 := 4#32
  let v27 : BitVec 32 := Scalar.remsi v26 c4_i32_10
  let c1_i32_12 : BitVec 32 := 1#32
  let v28 : BitVec 32 := Scalar.muli v27 c1_i32_12
  let v29 : BitVec 32 := Scalar.addi c0_i32_13 v28
  v29.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v30 : BitVec 32 := Scalar.addi v2 c2_i32
  let c4_i32_14 : BitVec 32 := 4#32
  let v31 : BitVec 32 := Scalar.remsi v30 c4_i32_14
  let c1_i32_16 : BitVec 32 := 1#32
  let v32 : BitVec 32 := Scalar.muli v31 c1_i32_16
  let v33 : BitVec 32 := Scalar.addi c0_i32_17 v32
  v33.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v34 : BitVec 32 := Scalar.addi v2 c3_i32
  let c4_i32_18 : BitVec 32 := 4#32
  let v35 : BitVec 32 := Scalar.remsi v34 c4_i32_18
  let c1_i32_20 : BitVec 32 := 1#32
  let v36 : BitVec 32 := Scalar.muli v35 c1_i32_20
  let v37 : BitVec 32 := Scalar.addi c0_i32_21 v36
  v37.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let c0_i32_31 : BitVec 32 := 0#32
  ![v2.toNat, 0, 0]
def k0_off3 (d0 : Dev nD) (c1_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : BitVec 32 := Scalar.addi v2 c1_i32_24
  let c4_i32_25 : BitVec 32 := 4#32
  let v39 : BitVec 32 := Scalar.remsi v38 c4_i32_25
  let c1024_i32 : BitVec 32 := 1024#32
  let v40 : BitVec 32 := Scalar.muli v39 c1024_i32
  let c0_i32_32 : BitVec 32 := 0#32
  ![v40.toNat, 0]
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v38 : BitVec 32 := Scalar.addi v2 c1_i32_24
  let c4_i32_25 : BitVec 32 := 4#32
  let v39 : BitVec 32 := Scalar.remsi v38 c4_i32_25
  let c1_i32_28 : BitVec 32 := 1#32
  let v41 : BitVec 32 := Scalar.muli v39 c1_i32_28
  let v42 : BitVec 32 := Scalar.addi c0_i32_29 v41
  v42.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v50 : BitVec 32 := Scalar.addi v2 c2_i32_33
  let c4_i32_34 : BitVec 32 := 4#32
  let v51 : BitVec 32 := Scalar.remsi v50 c4_i32_34
  let c1_i32_38 : BitVec 32 := 1#32
  let v53 : BitVec 32 := Scalar.muli v51 c1_i32_38
  let v54 : BitVec 32 := Scalar.addi c0_i32_39 v53
  v54.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v62 : BitVec 32 := Scalar.addi v2 c3_i32_43
  let c4_i32_44 : BitVec 32 := 4#32
  let v63 : BitVec 32 := Scalar.remsi v62 c4_i32_44
  let c1_i32_48 : BitVec 32 := 1#32
  let v65 : BitVec 32 := Scalar.muli v63 c1_i32_48
  let v66 : BitVec 32 := Scalar.addi c0_i32_49 v65
  v66.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_53 : BitVec 32 := 1024#32
  let v74 : BitVec 32 := Scalar.muli v2 c1024_i32_53
  let c0_i32_57 : BitVec 32 := 0#32
  ![v74.toNat, 0]
def k0_cond2 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_1 : BitVec 32 := 0#32
  let v8 : BitVec 1 := Scalar.cmpi .ne v7 c0_i32_1
  v8

def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_9 : BitVec 32 := 4#32
  let v26 : BitVec 32 := Scalar.remsi v25 c4_i32_9
  let c0_i32_14 : BitVec 32 := 0#32
  let c0_i32_15 : BitVec 32 := 0#32
  ![v26.toNat, 0, 0]
def k0_cond3 (i : grid0.Coords) : BitVec 1 :=
  let arg0 : BitVec 32 := BitVec.ofNat 32 (i 0).val
  let c9_i32 : BitVec 32 := 9#32
  let v9 : BitVec 1 := Scalar.cmpi .eq arg0 c9_i32
  let v10 : BitVec 32 := Scalar.extui v9
  let c0_i32_2 : BitVec 32 := 0#32
  let v11 : BitVec 1 := Scalar.cmpi .ne v10 c0_i32_2
  v11

def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v25 : BitVec 32 := Scalar.addi v2 c1_i32_9
  let c4_i32_10 : BitVec 32 := 4#32
  let v26 : BitVec 32 := Scalar.remsi v25 c4_i32_10
  let c0_i32_14 : BitVec 32 := 0#32
  let c0_i32_15 : BitVec 32 := 0#32
  ![v26.toNat, 0, 0]
def k0_cond4 (i : grid0.Coords) : BitVec 1 :=
  let arg0 : BitVec 32 := BitVec.ofNat 32 (i 0).val
  let c13_i32 : BitVec 32 := 13#32
  let v12 : BitVec 1 := Scalar.cmpi .eq arg0 c13_i32
  let v13 : BitVec 32 := Scalar.extui v12
  let c0_i32_3 : BitVec 32 := 0#32
  let v14 : BitVec 1 := Scalar.cmpi .ne v13 c0_i32_3
  v14

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_9 : BitVec 32 := 4#32
  let v26 : BitVec 32 := Scalar.remsi v25 c4_i32_9
  let c0_i32_14 : BitVec 32 := 0#32
  let c0_i32_15 : BitVec 32 := 0#32
  ![v26.toNat, 0, 0]
def k0_cond5 (i : grid0.Coords) : BitVec 1 :=
  let arg0 : BitVec 32 := BitVec.ofNat 32 (i 0).val
  let c16_i32 : BitVec 32 := 16#32
  let v15 : BitVec 1 := Scalar.cmpi .slt arg0 c16_i32
  let v16 : BitVec 32 := Scalar.extui v15
  let c0_i32_4 : BitVec 32 := 0#32
  let v17 : BitVec 1 := Scalar.cmpi .ne v16 c0_i32_4
  v17

def k0_off8 (i : grid0.Coords) : Fin 3 → Nat :=
  let arg0 : BitVec 32 := BitVec.ofNat 32 (i 0).val
  let c2_i32 : BitVec 32 := 2#32
  let v27 : BitVec 32 := Scalar.remsi arg0 c2_i32
  let v28 : Index := Scalar.indexCast v27
  let c0_10 : Index := 0#32
  let c0_11 : Index := 0#32
  ![v28.toNat, 0, 0]
def k0_cond6 (i : grid0.Coords) : BitVec 1 :=
  let arg0 : BitVec 32 := BitVec.ofNat 32 (i 0).val
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .ne v19 c0_i32_6
  v20

def k0_off9 (i : grid0.Coords) : Fin 1 → Nat :=
  let arg0 : BitVec 32 := BitVec.ofNat 32 (i 0).val
  let c1_i32_9 : BitVec 32 := 1#32
  let v25 : BitVec 32 := Scalar.subi arg0 c1_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c4_i32_10 : BitVec 32 := 4#32
  let c0_i32_13 : BitVec 32 := 0#32
  let v32 : BitVec 1 := Scalar.cmpi .sgt c4_i32_10 c0_i32_13
  let v33 : BitVec 32 := Scalar.extui v32
  let c0_i32_14 : BitVec 32 := 0#32
  let v34 : BitVec 1 := Scalar.cmpi .slt c4_i32_10 c0_i32_14
  let v35 : BitVec 32 := Scalar.extui v34
  let v36 : BitVec 32 := Scalar.subi v33 v35
  let v37 : BitVec 1 := Scalar.cmpi .ne v31 v36
  let v38 : BitVec 32 := Scalar.remsi v25 c4_i32_10
  let c0_i32_15 : BitVec 32 := 0#32
  let v39 : BitVec 1 := Scalar.cmpi .ne v38 c0_i32_15
  let v40 : BitVec 1 := Scalar.andi v37 v39
  let v26 : BitVec 32 := Scalar.divsi v25 c4_i32_10
  let c1_i32_16 : BitVec 32 := 1#32
  let v41 : BitVec 32 := Scalar.subi v26 c1_i32_16
  let v42 : BitVec 32 := Scalar.select v40 v41 v26
  let v44 : Index := Scalar.indexCast v42
  ![v44.toNat]
def k0_off10 (v45 : BitVec 32) : Fin 3 → Nat :=
  let v46 : Index := Scalar.indexCast v45
  let c0 : Index := 0#32
  let c0_18 : Index := 0#32
  ![v46.toNat, 0, 0]

def k0_chk1 (i : grid0.Coords) (v45 : BitVec 32) : Prop :=
  (∀ (k0_h6 : k0_cond6 i = 1#1), ∀ a, (k0_off10 v45) a + S1x1024x1024.size a ≤ S4x1024x1024.size a)
theorem k0_off10_inb : ∀ (i : grid0.Coords) (v45 : BitVec 32) (k0_hw1 : k0_chk1 i v45), ∀ (k0_h6 : k0_cond6 i = 1#1), ∀ a, (k0_off10 v45) a + S1x1024x1024.size a ≤ S4x1024x1024.size a := fun i v45 k0_hw1 k0_h6 => k0_hw1 k0_h6

def k0_off11 (i : grid0.Coords) : Fin 3 → Nat :=
  let arg0 : BitVec 32 := BitVec.ofNat 32 (i 0).val
  let c1_i32_9 : BitVec 32 := 1#32
  let v25 : BitVec 32 := Scalar.subi arg0 c1_i32_9
  let c2_i32 : BitVec 32 := 2#32
  let v49 : BitVec 32 := Scalar.remsi v25 c2_i32
  let v50 : Index := Scalar.indexCast v49
  let c0_19 : Index := 0#32
  let c0_20 : Index := 0#32
  ![v50.toNat, 0, 0]
def k0_cond7 (i : grid0.Coords) : BitVec 1 :=
  let arg0 : BitVec 32 := BitVec.ofNat 32 (i 0).val
  let c1_i32_9 : BitVec 32 := 1#32
  let v25 : BitVec 32 := Scalar.subi arg0 c1_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c4_i32_10 : BitVec 32 := 4#32
  let c0_i32_13 : BitVec 32 := 0#32
  let v32 : BitVec 1 := Scalar.cmpi .sgt c4_i32_10 c0_i32_13
  let v33 : BitVec 32 := Scalar.extui v32
  let c0_i32_14 : BitVec 32 := 0#32
  let v34 : BitVec 1 := Scalar.cmpi .slt c4_i32_10 c0_i32_14
  let v35 : BitVec 32 := Scalar.extui v34
  let v36 : BitVec 32 := Scalar.subi v33 v35
  let v37 : BitVec 1 := Scalar.cmpi .ne v31 v36
  let v38 : BitVec 32 := Scalar.remsi v25 c4_i32_10
  let c0_i32_15 : BitVec 32 := 0#32
  let v39 : BitVec 1 := Scalar.cmpi .ne v38 c0_i32_15
  let v40 : BitVec 1 := Scalar.andi v37 v39
  let v26 : BitVec 32 := Scalar.divsi v25 c4_i32_10
  let c1_i32_16 : BitVec 32 := 1#32
  let v41 : BitVec 32 := Scalar.subi v26 c1_i32_16
  let v42 : BitVec 32 := Scalar.select v40 v41 v26
  let c0_i32_21 : BitVec 32 := 0#32
  let v54 : BitVec 1 := Scalar.cmpi .eq v42 c0_i32_21
  let v55 : BitVec 32 := Scalar.extui v54
  let c0_i32_22 : BitVec 32 := 0#32
  let v56 : BitVec 1 := Scalar.cmpi .ne v55 c0_i32_22
  v56

def k0_off12 (i : grid0.Coords) : Fin 3 → Nat :=
  let arg0 : BitVec 32 := BitVec.ofNat 32 (i 0).val
  let c1_i32_9 : BitVec 32 := 1#32
  let v25 : BitVec 32 := Scalar.subi arg0 c1_i32_9
  let c4_i32_17 : BitVec 32 := 4#32
  let v43 : BitVec 32 := Scalar.remsi v25 c4_i32_17
  let v66 : Index := Scalar.indexCast v43
  let c0_27 : Index := 0#32
  let c0_28 : Index := 0#32
  ![v66.toNat, 0, 0]
def k0_cond8 (i : grid0.Coords) : BitVec 1 :=
  let arg0 : BitVec 32 := BitVec.ofNat 32 (i 0).val
  let c1_i32_9 : BitVec 32 := 1#32
  let v25 : BitVec 32 := Scalar.subi arg0 c1_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c4_i32_10 : BitVec 32 := 4#32
  let c0_i32_13 : BitVec 32 := 0#32
  let v32 : BitVec 1 := Scalar.cmpi .sgt c4_i32_10 c0_i32_13
  let v33 : BitVec 32 := Scalar.extui v32
  let c0_i32_14 : BitVec 32 := 0#32
  let v34 : BitVec 1 := Scalar.cmpi .slt c4_i32_10 c0_i32_14
  let v35 : BitVec 32 := Scalar.extui v34
  let v36 : BitVec 32 := Scalar.subi v33 v35
  let v37 : BitVec 1 := Scalar.cmpi .ne v31 v36
  let v38 : BitVec 32 := Scalar.remsi v25 c4_i32_10
  let c0_i32_15 : BitVec 32 := 0#32
  let v39 : BitVec 1 := Scalar.cmpi .ne v38 c0_i32_15
  let v40 : BitVec 1 := Scalar.andi v37 v39
  let v26 : BitVec 32 := Scalar.divsi v25 c4_i32_10
  let c1_i32_16 : BitVec 32 := 1#32
  let v41 : BitVec 32 := Scalar.subi v26 c1_i32_16
  let v42 : BitVec 32 := Scalar.select v40 v41 v26
  let c0_i32_23 : BitVec 32 := 0#32
  let v57 : BitVec 1 := Scalar.cmpi .sgt v42 c0_i32_23
  let c3_i32 : BitVec 32 := 3#32
  let v58 : BitVec 1 := Scalar.cmpi .slt v42 c3_i32
  let v59 : BitVec 1 := Scalar.andi v57 v58
  let v60 : BitVec 32 := Scalar.extui v59
  let c0_i32_24 : BitVec 32 := 0#32
  let v61 : BitVec 1 := Scalar.cmpi .ne v60 c0_i32_24
  v61

def k0_off13 (i : grid0.Coords) : Fin 3 → Nat :=
  let arg0 : BitVec 32 := BitVec.ofNat 32 (i 0).val
  let c1_i32_9 : BitVec 32 := 1#32
  let v25 : BitVec 32 := Scalar.subi arg0 c1_i32_9
  let c4_i32_17 : BitVec 32 := 4#32
  let v43 : BitVec 32 := Scalar.remsi v25 c4_i32_17
  let v65 : Index := Scalar.indexCast v43
  let c0_27 : Index := 0#32
  let c0_28 : Index := 0#32
  ![v65.toNat, 0, 0]
def k0_cond9 (i : grid0.Coords) : BitVec 1 :=
  let arg0 : BitVec 32 := BitVec.ofNat 32 (i 0).val
  let c1_i32_9 : BitVec 32 := 1#32
  let v25 : BitVec 32 := Scalar.subi arg0 c1_i32_9
  let c0_i32_11 : BitVec 32 := 0#32
  let v27 : BitVec 1 := Scalar.cmpi .sgt v25 c0_i32_11
  let v28 : BitVec 32 := Scalar.extui v27
  let c0_i32_12 : BitVec 32 := 0#32
  let v29 : BitVec 1 := Scalar.cmpi .slt v25 c0_i32_12
  let v30 : BitVec 32 := Scalar.extui v29
  let v31 : BitVec 32 := Scalar.subi v28 v30
  let c4_i32_10 : BitVec 32 := 4#32
  let c0_i32_13 : BitVec 32 := 0#32
  let v32 : BitVec 1 := Scalar.cmpi .sgt c4_i32_10 c0_i32_13
  let v33 : BitVec 32 := Scalar.extui v32
  let c0_i32_14 : BitVec 32 := 0#32
  let v34 : BitVec 1 := Scalar.cmpi .slt c4_i32_10 c0_i32_14
  let v35 : BitVec 32 := Scalar.extui v34
  let v36 : BitVec 32 := Scalar.subi v33 v35
  let v37 : BitVec 1 := Scalar.cmpi .ne v31 v36
  let v38 : BitVec 32 := Scalar.remsi v25 c4_i32_10
  let c0_i32_15 : BitVec 32 := 0#32
  let v39 : BitVec 1 := Scalar.cmpi .ne v38 c0_i32_15
  let v40 : BitVec 1 := Scalar.andi v37 v39
  let v26 : BitVec 32 := Scalar.divsi v25 c4_i32_10
  let c1_i32_16 : BitVec 32 := 1#32
  let v41 : BitVec 32 := Scalar.subi v26 c1_i32_16
  let v42 : BitVec 32 := Scalar.select v40 v41 v26
  let c3_i32_25 : BitVec 32 := 3#32
  let v62 : BitVec 1 := Scalar.cmpi .eq v42 c3_i32_25
  let v63 : BitVec 32 := Scalar.extui v62
  let c0_i32_26 : BitVec 32 := 0#32
  let v64 : BitVec 1 := Scalar.cmpi .ne v63 c0_i32_26
  v64

def k0_off14 (i : grid0.Coords) : Fin 3 → Nat :=
  let arg0 : BitVec 32 := BitVec.ofNat 32 (i 0).val
  let c1_i32_9 : BitVec 32 := 1#32
  let v25 : BitVec 32 := Scalar.subi arg0 c1_i32_9
  let c4_i32_17 : BitVec 32 := 4#32
  let v43 : BitVec 32 := Scalar.remsi v25 c4_i32_17
  let v65 : Index := Scalar.indexCast v43
  let c0_27 : Index := 0#32
  let c0_28 : Index := 0#32
  ![v65.toNat, 0, 0]
def k0_cond10 (i : grid0.Coords) : BitVec 1 :=
  let arg0 : BitVec 32 := BitVec.ofNat 32 (i 0).val
  let c16_i32_7 : BitVec 32 := 16#32
  let v21 : BitVec 1 := Scalar.cmpi .eq arg0 c16_i32_7
  let v_true : BitVec 1 := 1#1
  let v22 : BitVec 1 := Scalar.andi v21 v_true
  let v23 : BitVec 32 := Scalar.extui v22
  let c0_i32_8 : BitVec 32 := 0#32
  let v24 : BitVec 1 := Scalar.cmpi .ne v23 c0_i32_8
  v24

def k0_dev7 (d0 : Dev nD) : Nat :=
  let c0_i32_41_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37_r0 : BitVec 32 := 1#32
  let v47_r0 : BitVec 32 := Scalar.addi v2 c1_i32_37_r0
  let c4_i32_38_r0 : BitVec 32 := 4#32
  let v48_r0 : BitVec 32 := Scalar.remsi v47_r0 c4_i32_38_r0
  let c1_i32_40_r0 : BitVec 32 := 1#32
  let v49_r0 : BitVec 32 := Scalar.muli v48_r0 c1_i32_40_r0
  let v50_r0 : BitVec 32 := Scalar.addi c0_i32_41_r0 v49_r0
  v50_r0.toNat
def k0_dev8 (d0 : Dev nD) : Nat :=
  let c0_i32_46_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42_r0 : BitVec 32 := 2#32
  let v51_r0 : BitVec 32 := Scalar.addi v2 c2_i32_42_r0
  let c4_i32_43_r0 : BitVec 32 := 4#32
  let v52_r0 : BitVec 32 := Scalar.remsi v51_r0 c4_i32_43_r0
  let c1_i32_45_r0 : BitVec 32 := 1#32
  let v53_r0 : BitVec 32 := Scalar.muli v52_r0 c1_i32_45_r0
  let v54_r0 : BitVec 32 := Scalar.addi c0_i32_46_r0 v53_r0
  v54_r0.toNat
def k0_dev9 (d0 : Dev nD) : Nat :=
  let c0_i32_51_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47_r0 : BitVec 32 := 3#32
  let v55_r0 : BitVec 32 := Scalar.addi v2 c3_i32_47_r0
  let c4_i32_48_r0 : BitVec 32 := 4#32
  let v56_r0 : BitVec 32 := Scalar.remsi v55_r0 c4_i32_48_r0
  let c1_i32_50_r0 : BitVec 32 := 1#32
  let v57_r0 : BitVec 32 := Scalar.muli v56_r0 c1_i32_50_r0
  let v58_r0 : BitVec 32 := Scalar.addi c0_i32_51_r0 v57_r0
  v58_r0.toNat
def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : Index := Scalar.indexCast v17
  let v19 : BitVec 32 := pf.at 0 (Rect.unit (s := S4) ![v18.toNat] S1.size (k0_off1_inb i)) numel1_S1
  let c4_i32_4 : BitVec 32 := 4#32
  let v20 : BitVec 32 := Scalar.remsi v0 c4_i32_4
  let c0_i32_5 : BitVec 32 := 0#32
  ![v19.toNat, v20.toNat]

def cc0_transform_2 (i : grid0.Coords) : Fin 2 → Nat :=
  let arg0 : BitVec 32 := BitVec.ofNat 32 (i 0).val
  let c13_i32 : BitVec 32 := 13#32
  let v0 : BitVec 32 := Scalar.subi arg0 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Protocol.lean ====
/-
  The hand-shake of the kernel on four devices, written down once at a symbolic device:

  · the BARRIER semaphore of device `c` (regular, the runtime's): three units, one from each other device, all at grid
    point 0, awaited together at grid point 0. Unit number `o` comes from device `c - o` and hands `c` slot `c` of that
    device's `xfull` scratch, with the news that the receive cell `c` will credit there, and the closing cell, are open;
  · RECEIVE semaphore `k` of device `c` (k = 1, 2, 3): one landing, from device `c - k`, awaited at grid point 5, 13, 9;
    it hands `c` its own slot `c - k`, filled with rows `[1024 c, 1024 c + 1024)` of that device's block of `x`;
  · SEND semaphore `k` of device `c`: the same transfer's departure, to device `c + k`, awaited at grid point 16; it hands
    the lent rows of `x` back;
  · the CLOSING semaphore of device `c` (the scoped second barrier): three units that hand over nothing, grid point 16;
  · send semaphore 0 of device `c`: the copy of its own rows into its own slot, started and awaited at grid point 0.

  Levels: the pipeline's cells 0, the barrier 1, receives and sends 2, the closing barrier 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.StableHlo
public import Idealize.ShloMosaic.Lib.Tactic
public import Idealize.ShloMosaic.Lib.ValueIdxCore
public import Idealize.ShloMosaic.Lib.ValueLayout
public import Idealize.ShloMosaic.Lib.ViewIndex

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The pipeline's rounds, and the hand-shake's: one duty per unit or landing, named by a `Fin 4`. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

variable (m : (ℓ : Loc nD τ sig) → Buf (Elt F) ℓ)

/-! ## Devices -/

/-- The device `k` places further round the mesh. -/
def pl (c : Dev nD) (k : Fin 4) : Dev nD := ⟨(c.val + k.val) % 4, Nat.mod_lt _ (by decide)⟩

theorem pl_zero (c : Dev nD) : pl c 0 = c := by revert c; decide
theorem pl_neg (c : Dev nD) (k : Fin 4) : pl (pl c k) (-k) = c := by revert c k; decide
theorem pl_neg' (c : Dev nD) (k : Fin 4) : pl (pl c (-k)) k = c := by revert c k; decide
theorem pl_ne (c : Dev nD) {k k' : Fin 4} (h : k ≠ k') : pl c k ≠ pl c k' := by revert c k k'; decide

/-! ## Semaphores and cells -/

abbrev barS : Sem sig := (SemArray.scalar (sig.barrier 0 rfl) : Sems sig S_).sem
abbrev finS : Sem sig := cc0_scoped0.sem
def sndS (k : Fin 4) : DmaSem sig := ⟨4 + k.val, by have h := k.isLt; show 4 + k.val < 12; omega⟩
def rcvS (k : Fin 4) : DmaSem sig := ⟨8 + k.val, by have h := k.isLt; show 8 + k.val < 12; omega⟩

theorem sndS_0 : ((cc0_scratch3.slice (Rect.unit (s := S4) ![0] S1.size inb_S4_S1_0)).squeeze S_ squeezes_S1_S_).sem = sndS 0 := by decide
theorem sndS_1 : ((cc0_scratch3.slice (Rect.unit (s := S4) ![1] S1.size inb_S4_S1_1)).squeeze S_ squeezes_S1_S_).sem = sndS 1 := by decide
theorem sndS_2 : ((cc0_scratch3.slice (Rect.unit (s := S4) ![2] S1.size inb_S4_S1_2)).squeeze S_ squeezes_S1_S_).sem = sndS 2 := by decide
theorem sndS_3 : ((cc0_scratch3.slice (Rect.unit (s := S4) ![3] S1.size inb_S4_S1_3)).squeeze S_ squeezes_S1_S_).sem = sndS 3 := by decide
theorem rcvS_1 : ((cc0_scratch4.slice (Rect.unit (s := S4) ![1] S1.size inb_S4_S1_1)).squeeze S_ squeezes_S1_S_).sem = rcvS 1 := by decide
theorem rcvS_2 : ((cc0_scratch4.slice (Rect.unit (s := S4) ![2] S1.size inb_S4_S1_2)).squeeze S_ squeezes_S1_S_).sem = rcvS 2 := by decide
theorem rcvS_3 : ((cc0_scratch4.slice (Rect.unit (s := S4) ![3] S1.size inb_S4_S1_3)).squeeze S_ squeezes_S1_S_).sem = rcvS 3 := by decide

abbrev barCell (c : Dev nD) : GSem nD τ sig := ((c : Thread nD τ), .reg barS)
abbrev finCell (c : Dev nD) : GSem nD τ sig := ((c : Thread nD τ), .reg finS)
abbrev sndCell (c : Dev nD) (k : Fin 4) : GSem nD τ sig := ((c : Thread nD τ), .dma (sndS k))
abbrev rcvCell (c : Dev nD) (k : Fin 4) : GSem nD τ sig := ((c : Thread nD τ), .dma (rcvS k))

/-! ## The views the transfers name -/

/-- A slot of `xfull`, as the program names it: one plane, its unit axis dropped. -/
abbrev slotAt (off : Fin 3 → ℕ) (h : ∀ a, off a + S1x1024x1024.size a ≤ S4x1024x1024.size a) : Memref sig .tc .vmem S1024x1024 .bf16 :=
  ((Memref.whole cc0_scratch1 : Memref sig .tc .vmem S4x1024x1024 .bf16).slice (Rect.unit (s := S4x1024x1024) off S1x1024x1024.size h) (fun _ => rfl)).squeeze S1024x1024 squeezes_S1x1024x1024_S1024x1024

/-- 1024 rows of this device's block of `x`, as the program names them. -/
abbrev rowsAt (off : Fin 2 → ℕ) (h : ∀ a, off a + S1024x1024.size a ≤ S4096x1024.size a) : Memref sig .tc .hbm S1024x1024 .bf16 :=
  (Memref.whole main_arg0 : Memref sig .tc .hbm S4096x1024 .bf16).slice (Rect.unit (s := S4096x1024) off S1024x1024.size h) (fun _ => rfl)

theorem slot_inb (s : Dev nD) : ∀ a, (![s.val, 0, 0] : Fin 3 → ℕ) a + S1x1024x1024.size a ≤ S4x1024x1024.size a := by revert s; decide
theorem rows_inb (d : Dev nD) : ∀ a, (![1024 * d.val, 0] : Fin 2 → ℕ) a + S1024x1024.size a ≤ S4096x1024.size a := by revert d; decide

abbrev slotM (s : Dev nD) : Memref sig .tc .vmem S1024x1024 .bf16 := slotAt ![s.val, 0, 0] (slot_inb s)
abbrev rowsM (d : Dev nD) : Memref sig .tc .hbm S1024x1024 .bf16 := rowsAt ![1024 * d.val, 0] (rows_inb d)

/-- What one transfer credits. -/
abbrev A : ℕ := (slotM 0).view.dmaCredit
theorem A_pos : 0 < A := View.dmaCredit_pos _ (by decide)
theorem credit_slot (off : Fin 3 → ℕ) (h : ∀ a, off a + S1x1024x1024.size a ≤ S4x1024x1024.size a) : (slotAt off h).view.dmaCredit = A := rfl

/-- What device `c`'s `xfull` holds when every landing has come: plane `s` is device `s`'s rows `[1024 c, 1024 c + 1024)`. -/
def xF (c : Dev nD) : Buf (Elt F) ((c : Thread nD τ).loc cc0_scratch1) := fun (i : S4x1024x1024.Idx) =>
  m (((⟨(i 0).val, (i 0).isLt⟩ : Dev nD) : Thread nD τ).loc main_arg0)
    (ix2 (⟨1024 * c.val + (i 1).val, by have h1 : (i 1).val < 1024 := (i 1).isLt; have h2 : c.val < 4 := c.isLt; omega⟩ : Fin 4096) (⟨(i 2).val, (i 2).isLt⟩ : Fin 1024) : S4096x1024.Idx)

/-- Slot `s` of device `c`'s `xfull`, held at `f`. -/
abbrev slotPts (c s : Dev nD) (f : Buf (Elt F) ((c : Thread nD τ).loc cc0_scratch1)) : sProp 𝕄 :=
  (slotM s).view.loc (c : Thread nD τ) ↦[(slotM s).view.set]{fullShare} f

/-- The rows of device `c`'s block of `x` that go to device `d`, held. -/
abbrev rowsPts (c d : Dev nD) : sProp 𝕄 :=
  (rowsM d).view.loc (c : Thread nD τ) ↦[(rowsM d).view.set]{fullShare} m ((c : Thread nD τ).loc main_arg0)

theorem slot_emb (s : Dev nD) (a b : Fin 1024) : (slotM s).view.emb (ix2 a b) = (ix3 s a b : S4x1024x1024.Idx) := by
  show (Rect.unit (s := S4x1024x1024) ![s.val, 0, 0] S1x1024x1024.size (slot_inb s)).emb (Shape.reshapeEquiv _ (ix2 a b)) = _
  rw [reshapeEquiv_ix2_1ab]
  funext d
  match d with
  | ⟨0, _⟩ => exact Fin.ext (by show s.val + 1 * 0 = s.val; omega)
  | ⟨1, _⟩ => exact Fin.ext (by show 0 + 1 * a.val = a.val; omega)
  | ⟨2, _⟩ => exact Fin.ext (by show 0 + 1 * b.val = b.val; omega)

theorem rows_emb (d : Dev nD) (a b : Fin 1024) : (rowsM d).view.emb (ix2 a b)
    = (ix2 (⟨1024 * d.val + a.val, by have h1 := a.isLt; have h2 : d.val < 4 := d.isLt; omega⟩ : Fin 4096) b : S4096x1024.Idx) := by
  show (Rect.unit (s := S4096x1024) ![1024 * d.val, 0] S1024x1024.size (rows_inb d)).emb (ix2 a b) = _
  funext x
  match x with
  | ⟨0, _⟩ => exact Fin.ext (by show 1024 * d.val + 1 * a.val = 1024 * d.val + a.val; omega)
  | ⟨1, _⟩ => exact Fin.ext (by show 0 + 1 * b.val = b.val; omega)

omit [FloatOps F] in
/-- What a landing leaves in a slot is what the slot is to hold. -/
theorem landed_on (c s : Dev nD) (fd : Buf (Elt F) ((c : Thread nD τ).loc cc0_scratch1)) :
    ∀ i ∈ (slotM s).view.set,
      (slotM s).view.write (Elt F) fd ((rowsM c).view.read (Elt F) (m ((s : Thread nD τ).loc main_arg0))) Finset.univ i = xF m c i := by
  intro i hi
  obtain ⟨x, -, rfl⟩ := Finset.mem_map.mp hi
  obtain ⟨a, b, rfl⟩ : ∃ a b, x = (ix2 a b : S1024x1024.Idx) := ⟨_, _, eq_ix2 x⟩
  rw [View.write_emb_of_mem _ _ (Finset.mem_univ _)]
  rw [slot_emb]
  show m ((s : Thread nD τ).loc main_arg0) ((rowsM c).view.emb (ix2 a b)) = _
  rw [rows_emb]
  rfl

/-- The landing, as contents of the slot. -/
theorem landed_pts (c s : Dev nD) (fd : Buf (Elt F) ((c : Thread nD τ).loc cc0_scratch1)) :
    ((slotM s).view.loc (c : Thread nD τ) ↦[(slotM s).view.set]{fullShare}
      ((slotM s).view.write (Elt F) fd ((rowsM c).view.read (Elt F) (m ((s : Thread nD τ).loc main_arg0))) Finset.univ) : sProp 𝕄)
      = slotPts c s (xF m c) :=
  pointsTo_congr (landed_on m c s fd)

/-! ## The schedule -/

/-- What unit `d` on device `c`'s barrier cell hands it: slot `c` of the payer's `xfull`, and that the payer's receive cell
    and closing cell are open. -/
def barPay (c : Dev nD) (d : Fin 4) : sProp 𝕄 :=
  iprop((∃ f, slotPts (pl c (-d)) c f) ∗ reached ER (rcvCell (pl c (-d)) (-d)) 0 ∗ reached ER (finCell (pl c (-d))) 0)
def rcvPay (c : Dev nD) (k : Fin 4) : sProp 𝕄 := slotPts c (pl c (-k)) (xF m c)
/-- What send semaphore `k` hands back: the lent rows; with number 0, the copy within the device, its own slot too. -/
def sndPay (c : Dev nD) (k : Fin 4) : sProp 𝕄 :=
  if k = 0 then iprop(slotPts c (pl c 0) (xF m c) ∗ rowsPts m c (pl c 0)) else rowsPts m c (pl c k)

/-- The transfers' cells: send 0–3 and receive 1–3. -/
abbrev IsLanding (q : DmaSem sig) : Prop := q.val ∈ ({4, 5, 6, 7, 9, 10, 11} : Finset ℕ)

/-- Round 0 only: three duties of one unit on the barrier cells, one of a landing's credit on the transfers' cells. -/
def Rd : Rounds.Schedule (GSem nD τ sig) (Fin 4) 𝕄 where
  duties g r := if r = 0 ∧ g.1.2 = .tc then
      (match g.2 with
        | .reg _ => {1, 2, 3}
        | .dma q => if IsLanding q then {0} else ∅)
    else ∅
  unitless _ := False
  amount g _ _ := match g.2 with
    | .reg _ => 1
    | .dma _ => A
  payload g _ d := match g.2 with
    | .reg s => if s = barS then barPay g.1.1 d else iprop(emp)
    | .dma q => if 8 ≤ q.val then rcvPay m g.1.1 (Fin.ofNat 4 (q.val - 8)) else sndPay m g.1.1 (Fin.ofNat 4 (q.val - 4))
  amount_pos g _ _ _ := by
    split
    · exact Nat.one_pos
    · exact A_pos

instance Rd_storable (g : GSem nD τ sig) (r : ℕ) (d : Fin 4) : BI.Storable (upEmb : UEmb _ 𝕄) ((Rd (F := F) m).payload g r d) := by
  rcases g with ⟨⟨c, p⟩, sm⟩
  cases sm with
  | reg s =>
    show BI.Storable upEmb (if s = barS then barPay c d else iprop(emp))
    unfold barPay
    split <;> infer_instance
  | dma q =>
    show BI.Storable upEmb (if 8 ≤ q.val then rcvPay m c (Fin.ofNat 4 (q.val - 8)) else sndPay m c (Fin.ofNat 4 (q.val - 4)))
    unfold rcvPay sndPay
    split
    · infer_instance
    · split <;> infer_instance

section Tables
variable (c : Dev nD)

omit [FloatOps F] in
theorem duties_reg (s : Sem sig) : (Rd (F := F) m).duties ((c : Thread nD τ), .reg s) 0 = {1, 2, 3} := by dsimp only [Rd]; exact if_pos ⟨rfl, rfl⟩
omit [FloatOps F] in
theorem duties_snd (k : Fin 4) : (Rd (F := F) m).duties (sndCell c k) 0 = {0} := by
  dsimp only [Rd]; rw [if_pos ⟨rfl, rfl⟩, if_pos]; revert k; decide
omit [FloatOps F] in
theorem duties_rcv {k : Fin 4} (hk : k ≠ 0) : (Rd (F := F) m).duties (rcvCell c k) 0 = {0} := by
  dsimp only [Rd]; rw [if_pos ⟨rfl, rfl⟩, if_pos]; revert k; decide
omit [FloatOps F] in
theorem duties_later (g : GSem nD τ sig) : ∀ r, 1 ≤ r → (Rd (F := F) m).duties g r = ∅ :=
  fun r hr => by dsimp only [Rd]; exact if_neg fun h => by omega

omit [FloatOps F] in
theorem amount_reg (s : Sem sig) (d : Fin 4) : (Rd (F := F) m).amount ((c : Thread nD τ), .reg s) 0 d = 1 := rfl
omit [FloatOps F] in
theorem amount_dma (q : DmaSem sig) (d : Fin 4) : (Rd (F := F) m).amount ((c : Thread nD τ), .dma q) 0 d = A := rfl

omit [FloatOps F] in
theorem expect_reg (s : Sem sig) : (Rd (F := F) m).expect ((c : Thread nD τ), .reg s) 0 = 3 := by
  unfold Schedule.expect Schedule.amountOf; rw [duties_reg]
  show (∑ d ∈ ({1, 2, 3} : Finset (Fin 4)), 1) = 3
  decide
omit [FloatOps F] in
theorem expect_snd (k : Fin 4) : (Rd (F := F) m).expect (sndCell c k) 0 = A := by
  unfold Schedule.expect Schedule.amountOf; rw [duties_snd m c k, Finset.sum_singleton]; rfl
omit [FloatOps F] in
theorem expect_rcv {k : Fin 4} (hk : k ≠ 0) : (Rd (F := F) m).expect (rcvCell c k) 0 = A := by
  unfold Schedule.expect Schedule.amountOf; rw [duties_rcv m c hk, Finset.sum_singleton]; rfl

omit [FloatOps F] in
theorem payload_bar (d : Fin 4) : (Rd (F := F) m).payload (barCell c) 0 d = barPay c d := by dsimp only [Rd]; exact if_pos rfl
omit [FloatOps F] in
theorem payload_fin (d : Fin 4) : (Rd (F := F) m).payload (finCell c) 0 d = iprop(emp) := by dsimp only [Rd]; exact if_neg (by decide)
omit [FloatOps F] in
theorem payload_rcv (k : Fin 4) (d : Fin 4) : (Rd (F := F) m).payload (rcvCell c k) 0 d = rcvPay m c k := by
  dsimp only [Rd]
  rw [if_pos (show 8 ≤ (rcvS k).val from Nat.le_add_right _ _)]
  congr 1; revert k; decide
omit [FloatOps F] in
theorem sndPay_zero : sndPay m c 0 = iprop(slotPts c (pl c 0) (xF m c) ∗ rowsPts m c (pl c 0)) := if_pos rfl
omit [FloatOps F] in
theorem sndPay_of {k : Fin 4} (hk : k ≠ 0) : sndPay m c k = rowsPts m c (pl c k) := if_neg hk
omit [FloatOps F] in
theorem payload_snd (k : Fin 4) (d : Fin 4) : (Rd (F := F) m).payload (sndCell c k) 0 d = sndPay m c k := by
  dsimp only [Rd]
  rw [if_neg (show ¬ 8 ≤ (sndS k).val by have h := k.isLt; show ¬ 8 ≤ 4 + k.val; omega)]
  congr 1; revert k; decide

omit [FloatOps F] in
/-- Everything the barrier cell hands over. -/
theorem rest_bar : bigSep ((Rd (F := F) m).duties (barCell c) 0 \ ∅) (fun u => (Rd (F := F) m).payload (barCell c) 0 u)
    = iprop(barPay c 1 ∗ barPay c 2 ∗ barPay c 3) := by
  rw [Finset.sdiff_empty, duties_reg]
  simp only [payload_bar]
  exact bigSep_eq_bigSepL_of_eq [(1 : Fin 4), 2, 3] (by decide) (by decide) _
omit [FloatOps F] in
theorem rest_snd (k : Fin 4) : bigSep ((Rd (F := F) m).duties (sndCell c k) 0 \ ∅) (fun u => (Rd (F := F) m).payload (sndCell c k) 0 u) = sndPay m c k := by
  rw [Finset.sdiff_empty, duties_snd m c k, bigSep_singleton, payload_snd]
omit [FloatOps F] in
theorem rest_rcv {k : Fin 4} (hk : k ≠ 0) : bigSep ((Rd (F := F) m).duties (rcvCell c k) 0 \ ∅) (fun u => (Rd (F := F) m).payload (rcvCell c k) 0 u) = rcvPay m c k := by
  rw [Finset.sdiff_empty, duties_rcv m c hk, bigSep_singleton, payload_rcv]

end Tables

/-! ## What each core owes; the levels -/

/-- The closing barrier's three units. -/
def Ofin (c : Dev nD) : CellTallies nD τ sig Unit :=
  ((0 + tallyAt (finCell (pl c 3)) () 1) + tallyAt (finCell (pl c 2)) () 1) + tallyAt (finCell (pl c 1)) () 1
/-- With the three landings on the peers. -/
def Osnd (c : Dev nD) : CellTallies nD τ sig Unit :=
  ((Ofin c + tallyAt (rcvCell (pl c 3) 3) () A) + tallyAt (rcvCell (pl c 2) 2) () A) + tallyAt (rcvCell (pl c 1) 1) () A
/-- With the barrier's three units: what device `c` owes at launch. -/
def O₀ (c : Dev nD) : CellTallies nD τ sig Unit :=
  ((Osnd c + tallyAt (barCell (pl c 3)) () 1) + tallyAt (barCell (pl c 2)) () 1) + tallyAt (barCell (pl c 1)) () 1

def L (g : GSem nD τ sig) : Finset Unit := if g.1.2 = .tc then {()} else ∅
def lv (g : GSem nD τ sig) (_ : Unit) : ℕ := match g.2 with
  | .reg s => if s = barS then 1 else 3
  | .dma q => if IsLanding q then 2 else 0

theorem L_of_ne (g : GSem nD τ sig) (h : g.1.2 ≠ .tc) : L g = ∅ := if_neg h
theorem L_tc (c : Dev nD) (sm : SemLoc sig) : L ((c : Thread nD τ), sm) = {()} := if_pos rfl

theorem L_of_tc (g : GSem nD τ sig) (h : g.1.2 = .tc) : L g = {()} := if_pos h

theorem lv_bar (c : Dev nD) : lv (barCell c) () = 1 := rfl
theorem lv_fin (c : Dev nD) : lv (finCell c) () = 3 := rfl
theorem lv_snd (c : Dev nD) (k : Fin 4) : lv (sndCell c k) () = 2 := if_pos (by revert k; decide)
theorem lv_rcv (c : Dev nD) {k : Fin 4} (hk : k ≠ 0) : lv (rcvCell c k) () = 2 := if_pos (by revert k; decide)

/-- Everything owed is owed on TensorCore cells at level `n` or above. -/
def Above (n : ℕ) (O : CellTallies nD τ sig Unit) : Prop := ∀ g u, 0 < O g u → g.1.2 = .tc ∧ n ≤ lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.pos_iff_ne_zero.mp hp |> fun hne => (Nat.eq_zero_or_pos (O g u)) with h0 | h0
  · exact h' g u (by omega)
  · exact h g u h0
theorem Above.tally {n : ℕ} (c : Dev nD) (sm : SemLoc sig) (a : ℕ) (h : n ≤ lv ((c : Thread nD τ), sm) ()) : Above n (tallyAt ((c : Thread nD τ), sm) () a) := fun g u hp => by
  rw [tallyAt_apply] at hp
  by_cases hg : g = ((c : Thread nD τ), sm) ∧ u = ()
  · rw [hg.1]; exact ⟨rfl, h⟩
  · rw [if_neg hg] at hp; exact absurd hp (Nat.lt_irrefl 0)

theorem above_Ofin (c : Dev nD) : Above 3 (Ofin c) :=
  (((Above.zero 3).add (Above.tally _ _ _ le_rfl)).add (Above.tally _ _ _ le_rfl)).add (Above.tally _ _ _ le_rfl)
theorem Above.mono {n n' : ℕ} (h : n ≤ n') {O : CellTallies nD τ sig Unit} (hO : Above n' O) : Above n O :=
  fun g u hp => ⟨(hO g u hp).1, h.trans (hO g u hp).2⟩
theorem above_Osnd (c : Dev nD) : Above 2 (Osnd c) :=
  ((((above_Ofin c).mono (by decide)).add (Above.tally _ _ _ (lv_rcv _ (by decide)).ge)).add (Above.tally _ _ _ (lv_rcv _ (by decide)).ge)).add (Above.tally _ _ _ (lv_rcv _ (by decide)).ge)
theorem above_O₀ (c : Dev nD) : Above 1 (O₀ c) := by
  unfold O₀
  exact ((((above_Osnd c).mono (by decide)).add (Above.tally _ _ _ (lv_bar _).ge)).add (Above.tally _ _ _ (lv_bar _).ge)).add (Above.tally _ _ _ (lv_bar _).ge)

theorem mw₁ (c : Dev nD) (sm : SemLoc sig) : ∀ p ∈ ({(sm, ())} : Finset (SemLoc sig × Unit)), p.2 ∈ L ((c : Thread nD τ), p.1) := fun p hp => by
  rw [L_tc]; exact Finset.mem_singleton_self _
theorem mw₂ (n : ℕ) (O : CellTallies nD τ sig Unit) (hO : Above (n + 1) O) (g : GSem nD τ sig) (h : 0 < O g ()) : () ∈ L g := by
  rw [L_of_tc g (hO g () h).1]; exact Finset.mem_singleton_self _
theorem mw₃ (c : Dev nD) (sm : SemLoc sig) (n : ℕ) (hl : lv ((c : Thread nD τ), sm) () ≤ n) :
    ∀ p ∈ ({(sm, ())} : Finset (SemLoc sig × Unit)), lv ((c : Thread nD τ), p.1) p.2 ≤ n := fun p hp => by
  obtain rfl := Finset.mem_singleton.mp hp; exact hl

omit [FloatOps F] in
/-- A core may wait on a cell of level `n` while all it owes lies above. -/
theorem mayWait (c : Dev nD) (sm : SemLoc sig) (n : ℕ) (O : CellTallies nD τ sig Unit) (hl : lv ((c : Thread nD τ), sm) () ≤ n) (hO : Above (n + 1) O) :
    (levAts L lv : sProp 𝕄) ⊢ MayWait (c : Thread nD τ) sm () O :=
  MayOwe.of_cut (c := (c : Thread nD τ)) (W := {(sm, ())}) (D := O) (L := L) (lev := lv) n (mw₁ c sm) (fun g _ hg => mw₂ n O hO g hg) (mw₃ c sm n hl)
    (fun g u hg => Nat.lt_of_succ_le (hO g u hg).2)

end Cert.KernelIdeal.Fused

end
-- ==== Proof.Contents.lean ====
/-
  What the kernel's buffers hold, at a symbolic device and a symbolic grid point: the prefetched order of the phases, the
  blocks of `w`, the two-slot buffer of their casts, the four-slot accumulator; and the closed forms of the conditions and
  offsets that choose between them.
-/
module

public import proofs.«01_k».proof.Proof.Protocol
public import Idealize.ShloMosaic.Lib.Claim

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The conditions and offsets at a grid point -/

theorem cond1_iff : ∀ i : grid0.Coords, k0_cond1 i = 1#1 ↔ (i 0).val = 0 := by decide +kernel
theorem cond2_iff : ∀ i : grid0.Coords, k0_cond2 i = 1#1 ↔ (i 0).val = 5 := by decide +kernel
theorem cond3_iff : ∀ i : grid0.Coords, k0_cond3 i = 1#1 ↔ (i 0).val = 9 := by decide +kernel
theorem cond4_iff : ∀ i : grid0.Coords, k0_cond4 i = 1#1 ↔ (i 0).val = 13 := by decide +kernel
theorem cond5_iff : ∀ i : grid0.Coords, k0_cond5 i = 1#1 ↔ (i 0).val < 16 := by decide +kernel
theorem cond6_iff : ∀ i : grid0.Coords, k0_cond6 i = 1#1 ↔ 0 < (i 0).val := by decide +kernel
theorem cond7_iff : ∀ i : grid0.Coords, 0 < (i 0).val → (k0_cond7 i = 1#1 ↔ (i 0).val < 5) := by decide +kernel
theorem cond8_iff : ∀ i : grid0.Coords, 0 < (i 0).val → (k0_cond8 i = 1#1 ↔ 5 ≤ (i 0).val ∧ (i 0).val < 13) := by decide +kernel
theorem cond9_iff : ∀ i : grid0.Coords, 0 < (i 0).val → (k0_cond9 i = 1#1 ↔ 13 ≤ (i 0).val) := by decide +kernel
theorem cond10_iff : ∀ i : grid0.Coords, k0_cond10 i = 1#1 ↔ (i 0).val = 16 := by decide +kernel

theorem off1_eq : ∀ i : grid0.Coords, k0_off1 i = ![min (i 0).val 15 / 4] := by decide +kernel
theorem off9_eq : ∀ i : grid0.Coords, 0 < (i 0).val → k0_off9 i = ![((i 0).val - 1) / 4] := by decide +kernel
theorem off11_eq : ∀ i : grid0.Coords, 0 < (i 0).val → k0_off11 i = ![((i 0).val - 1) % 2, 0, 0] := by decide +kernel
theorem off12_eq : ∀ i : grid0.Coords, 0 < (i 0).val → k0_off12 i = ![((i 0).val - 1) % 4, 0, 0] := by decide +kernel
theorem off13_eq : ∀ i : grid0.Coords, 0 < (i 0).val → k0_off13 i = ![((i 0).val - 1) % 4, 0, 0] := by decide +kernel
theorem off14_eq : ∀ i : grid0.Coords, 0 < (i 0).val → k0_off14 i = ![((i 0).val - 1) % 4, 0, 0] := by decide +kernel

theorem coords_val : ∀ t : Fin grid0.N, (grid0.coords t 0).val = t.val := by decide +kernel

/-! ## The order of the phases -/

/-- How far round the mesh the device lies whose block phase `p` consumes. -/
def ph (p : ℕ) : Fin 4 := match p % 4 with | 0 => 0 | 1 => 3 | 2 => 1 | _ => 2

/-- The device whose block of `x` the `s`-th product at device `c` consumes: four products a phase. -/
def src (c : Dev nD) (s : ℕ) : Dev nD := pl c (ph (s / 4))

/-- Device `c`'s prefetched table: the phases' devices, in order. -/
def tab (c : Dev nD) : (⟨S4, .i32⟩ : BufTy).Contents (Elt F) := fun (i : S4.Idx) => (BitVec.ofNat 32 (pl c (ph (i 0).val)).val : BitVec 32)

theorem tab_word (c : Dev nD) (i : S4.Idx) : ((BitVec.ofNat 32 (pl c (ph (i 0).val)).val : BitVec 32)).toNat = (pl c (ph (i 0).val)).val := by
  have h : (pl c (ph (i 0).val)).val < 4 := (pl c (ph (i 0).val)).isLt
  rw [BitVec.toNat_ofNat]; exact Nat.mod_eq_of_lt (by omega)

/-- What the host operations compute, word by word. -/
theorem tab_words : ∀ (c : Dev nD) (a : Fin 4),
    (Host.remsi (addi (broadcastInDim S4 ![] bcast_S_S4
        (Host.remui (Host.divui (constantI S_ 32 (Dev.word c)) (constantI S_ 32 1#32)) (constantI S_ 32 4#32)))
        fun i => lit0 (S4.rowMajor i))
      (broadcastInDim S4 ![] bcast_S_S4 (constantI S_ 32 4#32)) : IVec S4 32) (ix1 a) = (BitVec.ofNat 32 (pl c (ph a.val)).val : BitVec 32) := by
  decide +kernel

/-- The host operations compute it. -/
theorem tab_eq (c : Dev nD) : (V1 m c (Proc.devRef .tc main_v8) : (⟨S4, .i32⟩ : BufTy).Contents (Elt F)) = tab c := by
  funext i
  obtain ⟨a, rfl⟩ : ∃ a : Fin 4, i = (ix1 a : S4.Idx) := ⟨i 0, eq_ix1 i⟩
  refine Eq.trans ?_ (tab_words c a)
  unfold_abbrev_sides
  after_results
  rfl

/-- The prefetched table, as the pipeline is handed it. -/
def pf (c : Dev nD) : pre0.Contents (Elt F) := fun k => match k with | ⟨0, _⟩ => tab c

omit [FloatOps F] in
/-- Window 0's block at a grid point: the phase's rows of `w`, the product's columns. -/
theorem ix1_eq (c : Dev nD) (i : grid0.Coords) :
    cc0_transform_1 k0_off1_inb numel1_S1 (pf (F := F) c) i = ![(src c (min (i 0).val 15)).val, min (i 0).val 15 % 4] := by
  have hw : ∀ (x : S4.Idx), (tab (F := F) c x : BitVec 32).toNat = (pl c (ph (x 0).val)).val := fun x => tab_word c x
  have hc : ∀ i : grid0.Coords, (Scalar.remsi (Scalar.minsi (BitVec.ofNat 32 (i 0).val) 15#32) 4#32).toNat = min (i 0).val 15 % 4 := by decide +kernel
  funext a
  match a with
  | ⟨0, _⟩ =>
    refine (hw _).trans ?_
    unfold src
    congr 3
    show k0_off1 i 0 + 1 * 0 = _
    rw [off1_eq]
    rfl
  | ⟨1, _⟩ => exact hc i

theorem ok (c : Dev nD) : ok0 (pf (F := F) c) := by
  rw [ok0.eq_1]
  intro i
  have hs : (src c (min (i 0).val 15)).val < 4 := (src c (min (i 0).val 15)).isLt
  have h : ∀ a, (cc0_transform_1 k0_off1_inb numel1_S1 (pf (F := F) c) i a + 1) * S1024x2048.size a ≤ S4096x8192.size a := by
    rw [ix1_eq]
    intro a
    match a with
    | ⟨0, _⟩ => show ((src c (min (i 0).val 15)).val + 1) * 1024 ≤ 4096; omega
    | ⟨1, _⟩ => show (min (i 0).val 15 % 4 + 1) * 2048 ≤ 8192; omega
  exact ⟨h, .inr (Affine.block_words_dvd (of_decide_eq_true rfl) (by decide))⟩

/-- The table, with what the pipeline asks of it. -/
def adm (c : Dev nD) : (pcfg0 (F := F)).Adm := ⟨pf c, ok c⟩

/-! ## The values -/

/-- The block of `w` the `s`-th product consumes: the phase's rows, columns `[2048 (s % 4), …)`. -/
def wBlk (c : Dev nD) (s : ℕ) : Vec F S1024x2048 .bf16 := fun (x : S1024x2048.Idx) =>
  (m ((c : Thread nD τ).loc main_arg1) : (⟨S4096x8192, .bf16⟩ : BufTy).Contents (Elt F))
    (ix2 (⟨1024 * (src c s).val + (x 0).val, by have h1 : (x 0).val < 1024 := (x 0).isLt; have h2 : (src c s).val < 4 := (src c s).isLt; omega⟩ : Fin 4096)
      (⟨2048 * (s % 4) + (x 1).val, by have h1 : (x 1).val < 2048 := (x 1).isLt; omega⟩ : Fin 8192))

/-- Its cast, as the two-slot buffer holds it. -/
def wb (c : Dev nD) (s : ℕ) : Vec F S1x1024x2048 .bf16 := k0_pay1 (wBlk m c s)

/-- The plane of `xfull` the `s`-th product consumes. -/
def xs (c : Dev nD) (s : ℕ) : Vec F S1x1024x1024 .bf16 := fun (x : S1x1024x1024.Idx) =>
  (xF m c : (⟨S4x1024x1024, .bf16⟩ : BufTy).Contents (Elt F)) (ix3 (src c s) (⟨(x 1).val, (x 1).isLt⟩ : Fin 1024) (⟨(x 2).val, (x 2).isLt⟩ : Fin 1024))

/-- Accumulator slot `n` after phase `k` (k = 0, 1, 2). -/
def accum (c : Dev nD) (n : ℕ) : ℕ → Vec F S1x1024x2048 .bf16
  | 0 => k0_pay4 (xs m c n) (wb m c n)
  | k + 1 => k0_pay5 (xs m c (4 * (k + 1) + n)) (wb m c (4 * (k + 1) + n)) (accum c n k)

/-- What the `s`-th product leaves in its accumulator slot. -/
def part (c : Dev nD) (s : ℕ) : Vec F S1x1024x2048 .bf16 := accum m c (s % 4) (s / 4)

/-- Block `n` of the result. -/
def outV (c : Dev nD) (n : ℕ) : Vec F S1024x2048 .bf16 := k0_pay2 (k0_pay3 (xs m c (12 + n)) (wb m c (12 + n))) (accum m c n 2)

theorem part_first (c : Dev nD) (s : ℕ) (h : s < 4) : part m c s = k0_pay4 (xs m c s) (wb m c s) := by
  unfold part
  rw [Nat.mod_eq_of_lt h, Nat.div_eq_of_lt h, accum]

theorem part_next (c : Dev nD) (s : ℕ) (h : 4 ≤ s) : part m c s = k0_pay5 (xs m c s) (wb m c s) (part m c (s - 4)) := by
  obtain ⟨r, rfl⟩ := Nat.exists_eq_add_of_le h
  have e1 : (4 + r) / 4 = r / 4 + 1 := by omega
  have e2 : (4 + r) % 4 = r % 4 := by omega
  have e3 : 4 * (r / 4 + 1) + r % 4 = 4 + r := by omega
  unfold part
  rw [e1, e2, accum, e3, Nat.add_sub_cancel_left]

/-! ## Planes of the scratch buffers -/

theorem accR_inb {k : ℕ} (h : k < 4) : ∀ a, (![k, 0, 0] : Fin 3 → ℕ) a + S1x1024x2048.size a ≤ S4x1024x2048.size a := fun a => match a with
  | ⟨0, _⟩ => by show k + 1 ≤ 4; omega
  | ⟨1, _⟩ => by show 0 + 1024 ≤ 1024; omega
  | ⟨2, _⟩ => by show 0 + 2048 ≤ 2048; omega
theorem wbR_inb {k : ℕ} (h : k < 2) : ∀ a, (![k, 0, 0] : Fin 3 → ℕ) a + S1x1024x2048.size a ≤ S2x1024x2048.size a := fun a => match a with
  | ⟨0, _⟩ => by show k + 1 ≤ 2; omega
  | ⟨1, _⟩ => by show 0 + 1024 ≤ 1024; omega
  | ⟨2, _⟩ => by show 0 + 2048 ≤ 2048; omega
theorem xR_inb {k : ℕ} (h : k < 4) : ∀ a, (![k, 0, 0] : Fin 3 → ℕ) a + S1x1024x1024.size a ≤ S4x1024x1024.size a := fun a => match a with
  | ⟨0, _⟩ => by show k + 1 ≤ 4; omega
  | ⟨1, _⟩ => by show 0 + 1024 ≤ 1024; omega
  | ⟨2, _⟩ => by show 0 + 1024 ≤ 1024; omega

abbrev accM : Memref sig .tc .vmem S4x1024x2048 .bf16 := Memref.whole cc0_scratch0
abbrev xM : Memref sig .tc .vmem S4x1024x1024 .bf16 := Memref.whole cc0_scratch1
abbrev wbM : Memref sig .tc .vmem S2x1024x2048 .bf16 := Memref.whole cc0_scratch2

/-- A plane of the accumulator at offsets `off`; of the casts' buffer; of `xfull`. -/
abbrev accV (off : Fin 3 → ℕ) (h : ∀ a, off a + S1x1024x2048.size a ≤ S4x1024x2048.size a) : View sig .tc .vmem S1x1024x2048 .bf16 :=
  accM.access (Rect.unit (s := S4x1024x2048) off S1x1024x2048.size h)
abbrev wbV (off : Fin 3 → ℕ) (h : ∀ a, off a + S1x1024x2048.size a ≤ S2x1024x2048.size a) : View sig .tc .vmem S1x1024x2048 .bf16 :=
  wbM.access (Rect.unit (s := S2x1024x2048) off S1x1024x2048.size h)
abbrev xV (off : Fin 3 → ℕ) (h : ∀ a, off a + S1x1024x1024.size a ≤ S4x1024x1024.size a) : View sig .tc .vmem S1x1024x1024 .bf16 :=
  xM.access (Rect.unit (s := S4x1024x1024) off S1x1024x1024.size h)

abbrev AccC : Type := (⟨S4x1024x2048, .bf16⟩ : BufTy).Contents (Elt F)
abbrev WbC : Type := (⟨S2x1024x2048, .bf16⟩ : BufTy).Contents (Elt F)

theorem accV_disjoint {k k' : ℕ} (h h') (hne : k ≠ k') : Disjoint (accV ![k, 0, 0] h).set ((accV ![k', 0, 0] h').setOn Finset.univ) := by
  have hd : Disjoint (Rect.unit (s := S4x1024x2048) ![k, 0, 0] S1x1024x2048.size h).set (Rect.unit (s := S4x1024x2048) ![k', 0, 0] S1x1024x2048.size h').set :=
    Rect.disjoint_of_separated _ _ (0 : Fin 3) (by
      show (1 = 0 ∨ k + 1 * (1 - 1) < k') ∨ (1 = 0 ∨ k' + 1 * (1 - 1) < k)
      omega)
  have e := (Finset.disjoint_map (View.whole (κ := .tc) cc0_scratch0 : View sig .tc .vmem _ _).emb).mpr hd
  rwa [← View.set_slice, ← View.set_slice] at e
theorem wbV_disjoint {k k' : ℕ} (h h') (hne : k ≠ k') : Disjoint (wbV ![k, 0, 0] h).set ((wbV ![k', 0, 0] h').setOn Finset.univ) := by
  have hd : Disjoint (Rect.unit (s := S2x1024x2048) ![k, 0, 0] S1x1024x2048.size h).set (Rect.unit (s := S2x1024x2048) ![k', 0, 0] S1x1024x2048.size h').set :=
    Rect.disjoint_of_separated _ _ (0 : Fin 3) (by
      show (1 = 0 ∨ k + 1 * (1 - 1) < k') ∨ (1 = 0 ∨ k' + 1 * (1 - 1) < k)
      omega)
  have e := (Finset.disjoint_map (View.whole (κ := .tc) cc0_scratch2 : View sig .tc .vmem _ _).emb).mpr hd
  rwa [← View.set_slice, ← View.set_slice] at e

/-- Before grid point `t` the slots of the products already done and still needed hold what they left. -/
def AccOk (c : Dev nD) (t : ℕ) (f : AccC (F := F)) : Prop :=
  ∀ s, s < 12 → s + 1 < t → t ≤ s + 5 → (accV ![s % 4, 0, 0] (accR_inb (Nat.mod_lt _ (by decide)))).read (Elt F) f = part m c s
/-- Before grid point `t` the previous point's cast is in its slot. -/
def WbOk (c : Dev nD) (t : ℕ) (f : WbC (F := F)) : Prop :=
  1 ≤ t → t ≤ 16 → (wbV ![(t - 1) % 2, 0, 0] (wbR_inb (Nat.mod_lt _ (by decide)))).read (Elt F) f = wb m c (t - 1)

theorem accOk_start (c : Dev nD) (f) : AccOk (F := F) m c 0 f := fun s _ h _ => absurd h (Nat.not_lt_zero _)
theorem accOk_one (c : Dev nD) (f) : AccOk (F := F) m c 1 f := fun s _ h _ => by omega
theorem wbOk_start (c : Dev nD) (f) : WbOk (F := F) m c 0 f := fun h => absurd h (by decide)

theorem AccOk.step {c : Dev nD} {t : ℕ} {f : AccC (F := F)} (h : AccOk m c t f) (h1 : 1 ≤ t) (h2 : t < 13)
    (off) (hoff : off = ![(t - 1) % 4, 0, 0]) (hi) (w : Vec F S1x1024x2048 .bf16) (hw : w = part m c (t - 1)) :
    AccOk m c (t + 1) ((accV off hi).write (Elt F) f w Finset.univ) := by
  subst hoff hw
  intro s hs1 hs2 hs3
  by_cases e : s = t - 1
  · subst e
    exact View.read_write_univ _ _
  · rw [View.read_slice_write_slice_of_disjoint _ _ _ _ _ (accV_disjoint _ _ (by omega))]
    exact h s hs1 (by omega) (by omega)

theorem AccOk.keep {c : Dev nD} {t : ℕ} {f : AccC (F := F)} (h : AccOk m c t f) (h2 : 13 ≤ t) : AccOk m c (t + 1) f :=
  fun s hs1 hs2 hs3 => h s hs1 (by omega) (by omega)

/-- What the product at grid point `t` adds to. -/
theorem AccOk.read {c : Dev nD} {t : ℕ} {f : AccC (F := F)} (h : AccOk m c t f) (h1 : 5 ≤ t) (h2 : t ≤ 16)
    (off) (hoff : off = ![(t - 1) % 4, 0, 0]) (hi) : (accV off hi).read (Elt F) f = part m c (t - 1 - 4) := by
  subst hoff
  have e := h (t - 1 - 4) (by omega) (by omega) (by omega)
  have e' : (t - 1) % 4 = (t - 1 - 4) % 4 := by omega
  generalize (t - 1) % 4 = k at e' hi
  subst e'
  exact e

theorem WbOk.step {c : Dev nD} {t : ℕ} {f : WbC (F := F)}
    (off) (hoff : off = ![t % 2, 0, 0]) (hi) (w : Vec F S1x1024x2048 .bf16) (hw : w = wb m c t) :
    WbOk m c (t + 1) ((wbV off hi).write (Elt F) f w Finset.univ) := by
  subst hoff hw
  intro _ _
  simp only [Nat.add_sub_cancel]
  exact View.read_write_univ _ _

/-- The cast stored at this grid point leaves the previous one's slot. -/
theorem WbOk.read {c : Dev nD} {t : ℕ} {f : WbC (F := F)} (h : WbOk m c t f) (h1 : 1 ≤ t) (h2 : t ≤ 16)
    (off) (hoff : off = ![t % 2, 0, 0]) (hi) (w : Vec F S1x1024x2048 .bf16)
    (off') (hoff' : off' = ![(t - 1) % 2, 0, 0]) (hi') :
    (wbV off' hi').read (Elt F) ((wbV off hi).write (Elt F) f w Finset.univ) = wb m c (t - 1) := by
  subst hoff hoff'
  rw [View.read_slice_write_slice_of_disjoint _ _ _ _ _ (wbV_disjoint _ _ (by omega))]
  exact h h1 h2

theorem WbOk.read' {c : Dev nD} {t : ℕ} {f : WbC (F := F)} (h : WbOk m c t f) (h1 : 1 ≤ t) (h2 : t ≤ 16)
    (off') (hoff' : off' = ![(t - 1) % 2, 0, 0]) (hi') :
    (wbV off' hi').read (Elt F) f = wb m c (t - 1) := by
  subst hoff'
  exact h h1 h2

theorem wbOk_end (c : Dev nD) (f) : WbOk (F := F) m c 17 f := fun _ h => absurd h (by decide)

/-- The plane read for the `s`-th product. -/
theorem xV_read (c : Dev nD) (s : ℕ) (off) (hoff : off = ![(src c s).val, 0, 0]) (hi) :
    (xV off hi).read (Elt F) (xF m c) = xs m c s := by
  subst hoff
  funext x
  have h0 : (x 0).val < 1 := (x 0).isLt
  show (xF m c) ((Rect.unit (s := S4x1024x1024) ![(src c s).val, 0, 0] S1x1024x1024.size hi).emb x) = (xF m c) _
  congr 1
  funext a
  match a with
  | ⟨0, _⟩ => exact Fin.ext (by show (src c s).val + 1 * (x 0).val = (src c s).val; omega)
  | ⟨1, _⟩ => exact Fin.ext (by show 0 + 1 * (x 1).val = (x 1).val; omega)
  | ⟨2, _⟩ => exact Fin.ext (by show 0 + 1 * (x 2).val = (x 2).val; omega)

/-- It lies in the slot held. -/
theorem xV_set (c : Dev nD) (d : Dev nD) (off) (hoff : off = ![d.val, 0, 0]) (hi) : (xV off hi).set ⊆ (slotM d).view.set := by
  subst hoff
  exact Memref.subset_of_set_eq (Finset.Subset.refl _)
    (Memref.set_view_squeeze (xM.slice (Rect.unit (s := S4x1024x1024) ![d.val, 0, 0] S1x1024x1024.size hi) (fun _ => rfl)) squeezes_S1x1024x1024_S1024x1024)

end Cert.KernelIdeal.Fused

end
-- ==== Proof.Steps.lean ====
/-
  The stretches of the kernel's body, each over whatever follows it: the cast of a block of `w`; the reading of the two
  factors of a product; what becomes of the product (kept, added, or added and stored as a block of the result); a wait for
  a landing; a transfer to a peer; the copy within the device; a signal.
-/
module

public import proofs.«01_k».proof.Proof.Contents

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Memory -/

abbrev accPts (c : Dev nD) (f : AccC (F := F)) : sProp 𝕄 := ((c : Thread nD τ).loc cc0_scratch0) ↦{fullShare} f
abbrev wbPts (c : Dev nD) (f : WbC (F := F)) : sProp 𝕄 := ((c : Thread nD τ).loc cc0_scratch2) ↦{fullShare} f
abbrev tabPts (c : Dev nD) : sProp 𝕄 := ((c : Thread nD τ).loc main_v8) ↦{fullShare} (tab c : (⟨S4, .i32⟩ : BufTy).Contents (Elt F))

/-- The whole of a 1024 × 2048 block. -/
abbrev blkR (h : ∀ a, (![0, 0] : Fin 2 → ℕ) a + S1024x2048.size a ≤ S1024x2048.size a) : Rect S1024x2048 :=
  Rect.unit (s := S1024x2048) ![0, 0] S1024x2048.size h

theorem blkR_emb (h) (x : S1024x2048.Idx) : (blkR h).emb x = x := by
  funext a
  match a with
  | ⟨0, _⟩ => exact Fin.ext (by show 0 + 1 * (x 0).val = (x 0).val; omega)
  | ⟨1, _⟩ => exact Fin.ext (by show 0 + 1 * (x 1).val = (x 1).val; omega)

omit [FloatOps F] in
theorem blk_read (a : Memref sig .tc .vmem S1024x2048 .bf16) (h) (f) : (a.access (blkR h)).read (Elt F) f = a.view.read (Elt F) f := by
  funext x
  show _root_.cast _ (f (a.view.emb ((blkR h).emb x))) = _root_.cast _ (f (a.view.emb x))
  rw [blkR_emb]
omit [FloatOps F] in
theorem blk_write (a : Memref sig .tc .vmem S1024x2048 .bf16) (h) (f) (w : Vec F S1024x2048 .bf16) :
    a.view.read (Elt F) ((a.access (blkR h)).write (Elt F) f w Finset.univ) = w := by
  rw [← blk_read a h]; exact View.read_write_univ _ _

/-- A load of a whole staged block. -/
theorem wp_blk_load (c : Dev nD) (a : Memref sig .tc .vmem S1024x2048 .bf16) (X : Vec F S1024x2048 .bf16) {h} {hl : a.view.LoadsAt (blkR h).toLoadRect}
    {α : Type} {Q : α → sProp 𝕄} {k : Vec F S1024x2048 .bf16 → Prog (TpuEff nD τ sig (Elt F) Λ₀ .tc) α} :
    (owns (c : Thread nD τ) a fullShare X : sProp 𝕄)
      ⊢ iprop((owns (c : Thread nD τ) a fullShare X -∗ wp frame (wpE (defs₀ (F := F)) 𝒱₀ (c : Thread nD τ) none) Set.univ (k X) Q)
        -∗ wp frame (wpE (defs₀ (F := F)) 𝒱₀ (c : Thread nD τ) none) Set.univ (.op (.load a (blkR h).toLoadRect hl) k) Q) := by
  unfold owns
  iintro ⟨%f, %hf, Hf⟩ Hk
  iapply (wp_load_rect 𝒱₀ (c : Thread nD τ) none Set.univ (m := a) (r := blkR h) (S := a.view.set) (f := f) (View.set_slice_subset _ _)) $$ Hf
  iintro Hf
  rw [blk_read, hf]
  iapply Hk
  iexists f
  isplitr
  · ipureintro; exact hf
  · iexact Hf

/-- A store of a whole staged block. -/
theorem wp_blk_store (c : Dev nD) (a : Memref sig .tc .vmem S1024x2048 .bf16) (X w : Vec F S1024x2048 .bf16) {h}
    {hx : (a.access (blkR h)).Stores Finset.univ} {hm}
    {α : Type} {Q : α → sProp 𝕄} {k : PUnit → Prog (TpuEff nD τ sig (Elt F) Λ₀ .tc) α} :
    (owns (c : Thread nD τ) a fullShare X : sProp 𝕄)
      ⊢ iprop((owns (c : Thread nD τ) a fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store a (blkR h) w Finset.univ hx hm) k) Q) := by
  unfold owns
  iintro ⟨%f, %hf, Hf⟩ Hk
  iapply (wp_store 𝒱₀ (c : Thread nD τ) none Set.univ (m := a) (r := blkR h) (S := a.view.set) (f := f) (View.set_slice_subset _ _)) $$ Hf
  iintro Hf
  iapply Hk
  iexists _
  isplitr
  · ipureintro; exact blk_write a h f w
  · iexact Hf

/-! ## The cast of a block of `w` -/

theorem wp_cast (c : Dev nD) (a : Memref sig .tc .vmem S1024x2048 .bf16) (X : Vec F S1024x2048 .bf16) (f : WbC (F := F))
    {h} {hl : a.view.LoadsAt (blkR h).toLoadRect} (off : Fin 3 → ℕ) (hi)
    {hl' : wbM.view.LoadsAt (Rect.unit (s := S2x1024x2048) off S1x1024x2048.size hi).toLoadRect}
    {hx : ∀ v : Vec F S1024x2048 .bf16, (wbM.access (Rect.unit (s := S2x1024x2048) off S1x1024x2048.size hi)).Stores Finset.univ} {hm}
    {α : Type} {Q : α → sProp 𝕄} {k : PUnit → Prog (TpuEff nD τ sig (Elt F) Λ₀ .tc) α} :
    iprop(owns (c : Thread nD τ) a fullShare X ∗ wbPts c f)
      ⊢ iprop(((owns (c : Thread nD τ) a fullShare X ∗ wbPts c ((wbV off hi).write (Elt F) f (k0_pay1 X) Finset.univ)) -∗ wp frame (wpE (defs₀ (F := F)) 𝒱₀ (c : Thread nD τ) none) Set.univ (k ⟨⟩) Q)
        -∗ wp frame (wpE (defs₀ (F := F)) 𝒱₀ (c : Thread nD τ) none) Set.univ
          (.op (.load a (blkR h).toLoadRect hl) fun v =>
           .op (.load wbM (Rect.unit (s := S2x1024x2048) off S1x1024x2048.size hi).toLoadRect hl') fun _ =>
           .op (.store wbM (Rect.unit (s := S2x1024x2048) off S1x1024x2048.size hi) (k0_pay1 v) Finset.univ (hx v) hm) k) Q) := by
  iintro ⟨Ha, Hf⟩ Hk
  iapply (wp_blk_load c a X) $$ Ha
  iintro Ha
  iapply (wp_load_rect 𝒱₀ (c : Thread nD τ) none Set.univ (m := wbM) (r := Rect.unit (s := S2x1024x2048) off S1x1024x2048.size hi) (S := Finset.univ) (f := f) (Finset.subset_univ _)) $$ Hf
  iintro Hf
  iapply (wp_store 𝒱₀ (c : Thread nD τ) none Set.univ (m := wbM) (r := Rect.unit (s := S2x1024x2048) off S1x1024x2048.size hi) (S := Finset.univ) (f := f) (Finset.subset_univ _)) $$ Hf
  iintro Hf
  iapply Hk
  isplitl [Ha]; · iexact Ha
  iexact Hf

/-! ## The two factors of a product -/

theorem off10_eq (v : BitVec 32) : k0_off10 v = ![v.toNat, 0, 0] := rfl

/-- The word the kernel reads from the table at grid point `i` names the device whose block the product consumes. -/
theorem word_eq (c : Dev nD) (i : grid0.Coords) (h : 0 < (i 0).val) (hi) (x : S1.Idx) :
    (((Memref.whole main_v8 : Memref sig .tc .smem S4 .i32).access (Rect.unit (s := S4) (k0_off9 i) S1.size hi)).read (Elt F) (tab c) x : BitVec 32).toNat
      = (src c ((i 0).val - 1)).val := by
  have hx : (x 0).val < 1 := (x 0).isLt
  refine (tab_word c _).trans ?_
  unfold src
  congr 3
  show k0_off9 i 0 + 1 * (x 0).val = _
  rw [off9_eq i h]
  show ((i 0).val - 1) / 4 + 1 * (x 0).val = _
  omega

theorem chk1 (i : grid0.Coords) (v : BitVec 32) (d : Dev nD) (h : v.toNat = d.val) : k0_chk1 i v := by
  intro _
  rw [off10_eq, h]
  exact xR_inb d.isLt

/-- A load of the plane of `xfull` a product consumes. -/
theorem wp_plane (c : Dev nD) (s : ℕ) (off : Fin 3 → ℕ) (e : off = ![(src c s).val, 0, 0]) {hi}
    {hl : xM.view.LoadsAt (Rect.unit (s := S4x1024x1024) off S1x1024x1024.size hi).toLoadRect}
    {α : Type} {Q : α → sProp 𝕄} {k : Vec F S1x1024x1024 .bf16 → Prog (TpuEff nD τ sig (Elt F) Λ₀ .tc) α} :
    (slotPts c (src c s) (xF m c) : sProp 𝕄)
      ⊢ iprop((slotPts c (src c s) (xF m c) -∗ wp frame (wpE (defs₀ (F := F)) 𝒱₀ (c : Thread nD τ) none) Set.univ (k (xs m c s)) Q)
        -∗ wp frame (wpE (defs₀ (F := F)) 𝒱₀ (c : Thread nD τ) none) Set.univ
          (.op (.load xM (Rect.unit (s := S4x1024x1024) off S1x1024x1024.size hi).toLoadRect hl) k) Q) := by
  rw [← xV_read m c s off e hi]
  exact wp_load_rect 𝒱₀ (c : Thread nD τ) none Set.univ (xV_set c (src c s) off e hi)

/-! ## What becomes of a product -/

/-- Phase 0 keeps it in its accumulator slot. -/
theorem wp_keep (c : Dev nD) (w : Vec F S1x1024x2048 .bf16) (f : AccC (F := F)) (off : Fin 3 → ℕ) (hi)
    {hl : accM.view.LoadsAt (Rect.unit (s := S4x1024x2048) off S1x1024x2048.size hi).toLoadRect}
    {hx : (accM.access (Rect.unit (s := S4x1024x2048) off S1x1024x2048.size hi)).Stores Finset.univ} {hm}
    {α : Type} {Q : α → sProp 𝕄} {k : PUnit → Prog (TpuEff nD τ sig (Elt F) Λ₀ .tc) α} :
    (accPts c f : sProp 𝕄)
      ⊢ iprop((accPts c ((accV off hi).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ
          (.op (.load accM (Rect.unit (s := S4x1024x2048) off S1x1024x2048.size hi).toLoadRect hl) fun _ =>
           .op (.store accM (Rect.unit (s := S4x1024x2048) off S1x1024x2048.size hi) w Finset.univ hx hm) k) Q) := by
  iintro Hf Hk
  iapply (wp_load_rect 𝒱₀ (c : Thread nD τ) none Set.univ (m := accM) (r := Rect.unit (s := S4x1024x2048) off S1x1024x2048.size hi) (S := Finset.univ) (f := f) (Finset.subset_univ _)) $$ Hf
  iintro Hf
  iapply (wp_store 𝒱₀ (c : Thread nD τ) none Set.univ (m := accM) (r := Rect.unit (s := S4x1024x2048) off S1x1024x2048.size hi) (S := Finset.univ) (f := f) (Finset.subset_univ _)) $$ Hf
  iintro Hf
  iapply Hk
  iexact Hf

/-- Phases 1 and 2 add it to its accumulator slot. -/
theorem wp_addTo (c : Dev nD) (w : Vec F S1x1024x2048 .bf16 → Vec F S1x1024x2048 .bf16) (f : AccC (F := F)) (off : Fin 3 → ℕ) (hi)
    {hl : accM.view.LoadsAt (Rect.unit (s := S4x1024x2048) off S1x1024x2048.size hi).toLoadRect}
    {hx : ∀ _ : Vec F S1x1024x2048 .bf16, (accM.access (Rect.unit (s := S4x1024x2048) off S1x1024x2048.size hi)).Stores Finset.univ} {hm}
    {α : Type} {Q : α → sProp 𝕄} {k : PUnit → Prog (TpuEff nD τ sig (Elt F) Λ₀ .tc) α} :
    (accPts c f : sProp 𝕄)
      ⊢ iprop((accPts c ((accV off hi).write (Elt F) f (w ((accV off hi).read (Elt F) f)) Finset.univ) -∗ wp frame (wpE (defs₀ (F := F)) 𝒱₀ (c : Thread nD τ) none) Set.univ (k ⟨⟩) Q)
        -∗ wp frame (wpE (defs₀ (F := F)) 𝒱₀ (c : Thread nD τ) none) Set.univ
          (.op (.load accM (Rect.unit (s := S4x1024x2048) off S1x1024x2048.size hi).toLoadRect hl) fun v =>
           .op (.load accM (Rect.unit (s := S4x1024x2048) off S1x1024x2048.size hi).toLoadRect hl) fun _ =>
           .op (.store accM (Rect.unit (s := S4x1024x2048) off S1x1024x2048.size hi) (w v) Finset.univ (hx v) hm) k) Q) := by
  iintro Hf Hk
  iapply (wp_load_rect 𝒱₀ (c : Thread nD τ) none Set.univ (m := accM) (r := Rect.unit (s := S4x1024x2048) off S1x1024x2048.size hi) (S := Finset.univ) (f := f) (Finset.subset_univ _)) $$ Hf
  iintro Hf
  iapply (wp_load_rect 𝒱₀ (c : Thread nD τ) none Set.univ (m := accM) (r := Rect.unit (s := S4x1024x2048) off S1x1024x2048.size hi) (S := Finset.univ) (f := f) (Finset.subset_univ _)) $$ Hf
  iintro Hf
  iapply (wp_store 𝒱₀ (c : Thread nD τ) none Set.univ (m := accM) (r := Rect.unit (s := S4x1024x2048) off S1x1024x2048.size hi) (S := Finset.univ) (f := f) (Finset.subset_univ _)) $$ Hf
  iintro Hf
  iapply Hk
  iexact Hf

/-- The last phase adds it to the accumulator slot and stores the sum as a block of the result. -/
theorem wp_result (c : Dev nD) (a : Memref sig .tc .vmem S1024x2048 .bf16) (X : Vec F S1024x2048 .bf16)
    (w : Vec F S1x1024x2048 .bf16 → Vec F S1024x2048 .bf16) (f : AccC (F := F)) (off : Fin 3 → ℕ) (hi)
    {hl : accM.view.LoadsAt (Rect.unit (s := S4x1024x2048) off S1x1024x2048.size hi).toLoadRect}
    {h} {hla : a.view.LoadsAt (blkR h).toLoadRect}
    {hx : ∀ _ : Vec F S1x1024x2048 .bf16, (a.access (blkR h)).Stores Finset.univ} {hm}
    {α : Type} {Q : α → sProp 𝕄} {k : PUnit → Prog (TpuEff nD τ sig (Elt F) Λ₀ .tc) α} :
    iprop(accPts c f ∗ owns (c : Thread nD τ) a fullShare X)
      ⊢ iprop(((accPts c f ∗ owns (c : Thread nD τ) a fullShare (w ((accV off hi).read (Elt F) f))) -∗ wp frame (wpE (defs₀ (F := F)) 𝒱₀ (c : Thread nD τ) none) Set.univ (k ⟨⟩) Q)
        -∗ wp frame (wpE (defs₀ (F := F)) 𝒱₀ (c : Thread nD τ) none) Set.univ
          (.op (.load accM (Rect.unit (s := S4x1024x2048) off S1x1024x2048.size hi).toLoadRect hl) fun v =>
           .op (.load a (blkR h).toLoadRect hla) fun _ =>
           .op (.store a (blkR h) (w v) Finset.univ (hx v) hm) k) Q) := by
  iintro ⟨Hf, Ha⟩ Hk
  iapply (wp_load_rect 𝒱₀ (c : Thread nD τ) none Set.univ (m := accM) (r := Rect.unit (s := S4x1024x2048) off S1x1024x2048.size hi) (S := Finset.univ) (f := f) (Finset.subset_univ _)) $$ Hf
  iintro Hf
  iapply (wp_blk_load c a X) $$ Ha
  iintro Ha
  iapply (wp_blk_store c a X _) $$ Ha
  iintro Ha
  iapply Hk
  isplitl [Hf]; · iexact Hf
  iexact Ha

/-! ## The hand-shake -/

/-- The cells of the hand-shake, device by device: the barrier's, the closing barrier's, send 0–3, receive 1–3. -/
abbrev CellIx : Type := Dev nD × Fin 9
def cellAt : CellIx → GSem nD τ sig
  | (c, 0) => barCell c
  | (c, 1) => finCell c
  | (c, 2) => sndCell c 0
  | (c, 3) => sndCell c 1
  | (c, 4) => sndCell c 2
  | (c, 5) => sndCell c 3
  | (c, 6) => rcvCell c 1
  | (c, 7) => rcvCell c 2
  | (c, 8) => rcvCell c 3

/-- Every cell's invariant, at names `K`. -/
def invs (K : GSem nD τ sig → ℕ) : sProp 𝕄 := bigSep (Finset.univ : Finset CellIx) (fun x => cellInv ER (Rd m) (K (cellAt x)) (cellAt x))

instance (K : GSem nD τ sig → ℕ) : BI.Persistent (invs (F := F) m K) := by unfold invs; infer_instance

theorem invs_at (K : GSem nD τ sig → ℕ) (x : CellIx) : invs (F := F) m K ⊢ cellInv ER (Rd m) (K (cellAt x)) (cellAt x) := by
  unfold invs; exact bigSep_elim (Finset.mem_univ x)
theorem inv_bar (K : GSem nD τ sig → ℕ) (c : Dev nD) : invs (F := F) m K ⊢ cellInv ER (Rd m) (K (barCell c)) (barCell c) := invs_at m K (c, 0)
theorem inv_fin (K : GSem nD τ sig → ℕ) (c : Dev nD) : invs (F := F) m K ⊢ cellInv ER (Rd m) (K (finCell c)) (finCell c) := invs_at m K (c, 1)
theorem inv_snd (K : GSem nD τ sig → ℕ) (c : Dev nD) : ∀ k : Fin 4, invs (F := F) m K ⊢ cellInv ER (Rd m) (K (sndCell c k)) (sndCell c k)
  | 0 => invs_at m K (c, 2)
  | 1 => invs_at m K (c, 3)
  | 2 => invs_at m K (c, 4)
  | 3 => invs_at m K (c, 5)
theorem inv_rcv (K : GSem nD τ sig → ℕ) (c : Dev nD) : ∀ {k : Fin 4}, k ≠ 0 → (invs (F := F) m K ⊢ cellInv ER (Rd m) (K (rcvCell c k)) (rcvCell c k))
  | 0, h => absurd rfl h
  | 1, _ => invs_at m K (c, 6)
  | 2, _ => invs_at m K (c, 7)
  | 3, _ => invs_at m K (c, 8)

/-- A spent cell closes, its counter back at zero. -/
theorem close (κ : ℕ) (g : GSem nD τ sig) :
    iprop(cellInv ER (Rd m) κ g ∗ atPos ER g 1 ∅ 0) ⊢ (|={Set.univ}=> semVal g 0 : sProp 𝕄) :=
  Rounds.cell_close ER (Rd m) (Set.mem_univ κ) id (duties_later m g)

omit [FloatOps F] in
theorem owes_any (c : Dev nD) (O : CellTallies nD τ sig Unit) (W : Waits sig Unit) :
    (owes (c : Thread nD τ) O W : sProp 𝕄) ⊢ iprop(∃ W, owes (c : Thread nD τ) O W) := by
  iintro H; iexists W; iexact H

/-- The wait for the landing on receive semaphore `k`: the slot comes, filled, and the spent cell closes. -/
theorem wp_recv (K : GSem nD τ sig → ℕ) (c : Dev nD) {k : Fin 4} (hk : k ≠ 0) (W : Waits sig Unit) (sm : DmaSem sig) (hsm : sm = rcvS k)
    (offr : Fin 2 → ℕ) (offs : Fin 3 → ℕ) (hr) (hs)
    {hsrc : (rowsAt offr hr).view.WordExact} {hdst : (slotAt offs hs).view.WordExact}
    {α : Type} {Q : α → sProp 𝕄} {kk : PUnit → Prog (TpuEff nD τ sig (Elt F) Λ₀ .tc) α} :
    iprop(invs m K ∗ levAts L lv ∗ cred (tallyAt (rcvCell c k) () A) ∗ atPos ER (rcvCell c k) 0 ∅ 0 ∗ owes (c : Thread nD τ) (Ofin c) W)
      ⊢ iprop(((∃ W, owes (c : Thread nD τ) (Ofin c) W) ∗ slotPts c (pl c (-k)) (xF m c) ∗ semVal (rcvCell c k) 0 -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm (rowsAt offr hr) (slotAt offs hs) hsrc hdst) kk) Q) := by
  subst hsm
  iintro ⟨#HI, #Hlev, Hc, Hat, HO⟩ Hk
  ihave #Hi := (inv_rcv m K c hk) $$ HI
  iapply (Rounds.wp_wait_rest_token 𝒱₀ ER (Rd m) (c : Thread nD τ) none (κ := K (rcvCell c k))
      (wpE_waitDma2_eq 𝒱₀ (c : Thread nD τ) none Set.univ) (Set.mem_univ _) () (O := Ofin c) (W := W) (R := 0) (m := 0) (T := ∅)
      (by rw [Nat.zero_add, expect_rcv m c hk, credit_slot])) $$ [Hc HO Hat]
  · isplitr; · iexact Hi
    isplitl [Hc]; · rw [credit_slot]; iexact Hc
    isplitl [HO]; · iexact HO
    isplitr
    · iapply (mayWait c (.dma (rcvS k)) 2 (Ofin c) (lv_rcv c hk).le (above_Ofin c)); iexact Hlev
    iexact Hat
  iintro ⟨HO, Hat, -, Hpay⟩
  ihave Hp := (Entails.of_eq ((rest_rcv m c hk).trans (by unfold rcvPay; rfl))) $$ Hpay
  imod (close m (K (rcvCell c k)) (rcvCell c k)) $$ [Hat] with Hs
  · isplitr; · iexact Hi
    iexact Hat
  iapply Hk
  isplitl [HO]; · iexists _; iexact HO
  isplitl [Hp]; · iexact Hp
  iexact Hs

/-- The wait for the departure on send semaphore `k`: what was lent comes back, and the spent cell closes. -/
theorem wp_departed (K : GSem nD τ sig → ℕ) (c : Dev nD) (k : Fin 4) (W : Waits sig Unit) (sm : DmaSem sig) (hsm : sm = sndS k)
    {s' : Shape} {e' : EltTy} {sp sp' : Space} {s : Shape} {e : EltTy} {src : Memref sig .tc sp' s' e'} {dst : Memref sig .tc sp s e} {hs : src.view.WordExact} {hd : dst.view.WordExact}
    (hA : dst.view.dmaCredit = A)
    {α : Type} {Q : α → sProp 𝕄} {kk : PUnit → Prog (TpuEff nD τ sig (Elt F) Λ₀ .tc) α} :
    iprop(invs m K ∗ levAts L lv ∗ cred (tallyAt (sndCell c k) () A) ∗ atPos ER (sndCell c k) 0 ∅ 0 ∗ owes (c : Thread nD τ) (Ofin c) W)
      ⊢ iprop(((∃ W, owes (c : Thread nD τ) (Ofin c) W) ∗ sndPay m c k ∗ semVal (sndCell c k) 0 -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hs hd) kk) Q) := by
  subst hsm
  iintro ⟨#HI, #Hlev, Hc, Hat, HO⟩ Hk
  ihave #Hi := (inv_snd m K c k) $$ HI
  iapply (Rounds.wp_wait_rest_token 𝒱₀ ER (Rd m) (c : Thread nD τ) none (κ := K (sndCell c k))
      (wpE_waitDma2_eq 𝒱₀ (c : Thread nD τ) none Set.univ) (Set.mem_univ _) () (O := Ofin c) (W := W) (R := 0) (m := 0) (T := ∅)
      (by rw [Nat.zero_add, expect_snd m c k, hA])) $$ [Hc HO Hat]
  · isplitr; · iexact Hi
    isplitl [Hc]; · rw [hA]; iexact Hc
    isplitl [HO]; · iexact HO
    isplitr
    · iapply (mayWait c (.dma (sndS k)) 2 (Ofin c) (lv_snd c k).le (above_Ofin c)); iexact Hlev
    iexact Hat
  iintro ⟨HO, Hat, -, Hpay⟩
  ihave Hp := (Entails.of_eq (rest_snd m c k)) $$ Hpay
  imod (close m (K (sndCell c k)) (sndCell c k)) $$ [Hat] with Hs
  · isplitr; · iexact Hi
    iexact Hat
  iapply Hk
  isplitl [HO]; · iexists _; iexact HO
  isplitl [Hp]; · iexact Hp
  iexact Hs

theorem wp_sent (K : GSem nD τ sig → ℕ) (c : Dev nD) (k : Fin 4) (W : Waits sig Unit) (sm : DmaSem sig) (hsm : sm = sndS k)
    (offr : Fin 2 → ℕ) (offs : Fin 3 → ℕ) (hr) (hs) {hsrc : (slotAt offs hs).view.WordExact} {hdst : (rowsAt offr hr).view.WordExact}
    {α : Type} {Q : α → sProp 𝕄} {kk : PUnit → Prog (TpuEff nD τ sig (Elt F) Λ₀ .tc) α} :
    iprop(invs m K ∗ levAts L lv ∗ cred (tallyAt (sndCell c k) () A) ∗ atPos ER (sndCell c k) 0 ∅ 0 ∗ owes (c : Thread nD τ) (Ofin c) W)
      ⊢ iprop(((∃ W, owes (c : Thread nD τ) (Ofin c) W) ∗ sndPay m c k ∗ semVal (sndCell c k) 0 -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm (slotAt offs hs) (rowsAt offr hr) hsrc hdst) kk) Q) :=
  wp_departed m K c k W sm hsm (src := slotAt offs hs) (dst := rowsAt offr hr) (hs := hsrc) (hd := hdst) rfl

theorem wp_sent_own (K : GSem nD τ sig → ℕ) (c : Dev nD) (k : Fin 4) (W : Waits sig Unit) (sm : DmaSem sig) (hsm : sm = sndS k)
    (offr : Fin 2 → ℕ) (offs : Fin 3 → ℕ) (hr) (hs) {hsrc : (rowsAt offr hr).view.WordExact} {hdst : (slotAt offs hs).view.WordExact}
    {α : Type} {Q : α → sProp 𝕄} {kk : PUnit → Prog (TpuEff nD τ sig (Elt F) Λ₀ .tc) α} :
    iprop(invs m K ∗ levAts L lv ∗ cred (tallyAt (sndCell c k) () A) ∗ atPos ER (sndCell c k) 0 ∅ 0 ∗ owes (c : Thread nD τ) (Ofin c) W)
      ⊢ iprop(((∃ W, owes (c : Thread nD τ) (Ofin c) W) ∗ sndPay m c k ∗ semVal (sndCell c k) 0 -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm (rowsAt offr hr) (slotAt offs hs) hsrc hdst) kk) Q) :=
  wp_departed m K c k W sm hsm (src := rowsAt offr hr) (dst := slotAt offs hs) (hs := hsrc) (hd := hdst) rfl

/-- The transfer of the rows meant for device `pl c k` into its slot `c`, addressed to a device `n` that equals `pl c k`. -/
theorem wp_send (K : GSem nD τ sig → ℕ) (c n : Dev nD) {k : Fin 4} (hk : k ≠ 0) (hn : n = pl c k) (O : CellTallies nD τ sig Unit) (W : Waits sig Unit)
    (sm sm' : DmaSem sig) (hsm : sm = sndS k) (hsm' : sm' = rcvS k)
    (offr : Fin 2 → ℕ) (offs : Fin 3 → ℕ) (hr) (hs) (er : offr = ![1024 * (pl c k).val, 0]) (es : offs = ![c.val, 0, 0])
    {hsc : (slotAt offs hs : Memref sig (Dev.tc n : Thread nD τ).2.kind .vmem S1024x1024 .bf16).view.ref.isScScratch = false}
    {hsrc : (rowsAt offr hr).view.WordExact} {hdst : (slotAt offs hs).view.WordExact}
    {hsem : DmaTarget.Typed .hbm (.dma sm') (.remote (Dev.tc n : Thread nD τ) (slotAt offs hs) (.dma sm) hsc)}
    {α : Type} {Q : α → sProp 𝕄} {kk : PUnit → Prog (TpuEff nD τ sig (Elt F) Λ₀ .tc) α} (fd : Buf (Elt F) ((pl c k : Thread nD τ).loc cc0_scratch1)) :
    iprop(invs m K ∗ rowsPts m c (pl c k) ∗ slotPts (pl c k) c fd ∗ owes (c : Thread nD τ) (O + tallyAt (rcvCell (pl c k) k) () A) W
        ∗ dutyTok ER (sndCell c k) 0 0 ∗ reached ER (sndCell c k) 0 ∗ dutyTok ER (rcvCell (pl c k) k) 0 0 ∗ reached ER (rcvCell (pl c k) k) 0)
      ⊢ iprop((cred (tallyAt (sndCell c k) () A) ∗ owes (c : Thread nD τ) O W -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (rowsAt offr hr) (.remote (Dev.tc n : Thread nD τ) (slotAt offs hs) (.dma sm) hsc) (.dma sm') hsrc hdst hsem) kk) Q) := by
  subst hn hsm hsm' er es
  iintro ⟨#HI, Hr, Hs, HO, Ht1, Hr1, Ht2, Hr2⟩
  ihave #Hi1 := (inv_snd m K c k) $$ HI
  ihave #Hi2 := (inv_rcv m K (pl c k) hk) $$ HI
  iapply (Rounds.wp_send_pointsTo 𝒱₀ ER (Rd m) (c : Thread nD τ) none (κ₁ := K (sndCell c k)) (κ₂ := K (rcvCell (pl c k) k))
    (r₁ := 0) (r₂ := 0) (d₁ := 0) (d₂ := 0) (fd := fd)
    (by rw [duties_snd]; exact Finset.mem_singleton_self _) (by rw [duties_rcv m _ hk]; exact Finset.mem_singleton_self _)
    () () A rfl rfl rfl O rfl (W := W)
    (by rw [payload_snd, sndPay_of m c hk])
    (by rw [payload_rcv]; exact Entails.of_eq ((landed_pts m (pl c k) c fd).trans (by unfold rcvPay; rw [pl_neg]))))
  isplitr; · iexact Hi1
  isplitr; · iexact Hi2
  isplitl [Hr]; · iexact Hr
  isplitl [Hs]; · iexact Hs
  isplitl [HO]; · iexact HO
  isplitl [Ht1]; · iexact Ht1
  isplitl [Hr1]; · iexact Hr1
  isplitl [Ht2]; · iexact Ht2
  iexact Hr2

theorem landed_own (c d : Dev nD) (h : d = c) (fd : Buf (Elt F) ((c : Thread nD τ).loc cc0_scratch1)) :
    ((slotM d).view.loc (c : Thread nD τ) ↦[(slotM d).view.set]{fullShare}
      ((slotM d).view.write (Elt F) fd ((rowsM d).view.read (Elt F) (m ((c : Thread nD τ).loc main_arg0))) Finset.univ) : sProp 𝕄)
      = slotPts c d (xF m c) := by
  subst h; exact landed_pts m d d fd

/-- The copy of the device's own rows into its own slot. -/
theorem wp_own (K : GSem nD τ sig → ℕ) (c : Dev nD) (sm : DmaSem sig) (hsm : sm = sndS 0)
    (offr : Fin 2 → ℕ) (offs : Fin 3 → ℕ) (hr) (hs) (er : offr = ![1024 * (pl c 0).val, 0]) (es : offs = ![(pl c 0).val, 0, 0])
    {hsrc : (rowsAt offr hr).view.WordExact} {hdst : (slotAt offs hs).view.WordExact}
    {hsem : DmaTarget.Typed .hbm (.dma sm) (DmaTarget.here (slotAt offs hs) : DmaTarget nD τ sig .tc .vmem S1024x1024 .bf16)}
    {α : Type} {Q : α → sProp 𝕄} {kk : PUnit → Prog (TpuEff nD τ sig (Elt F) Λ₀ .tc) α} (fd : Buf (Elt F) ((c : Thread nD τ).loc cc0_scratch1)) :
    iprop(invs m K ∗ rowsPts m c (pl c 0) ∗ slotPts c (pl c 0) fd ∗ dutyTok ER (sndCell c 0) 0 0 ∗ reached ER (sndCell c 0) 0)
      ⊢ iprop((cred (tallyAt (sndCell c 0) () A) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (rowsAt offr hr) (.here (slotAt offs hs)) (.dma sm) hsrc hdst hsem) kk) Q) := by
  subst hsm er es
  iintro ⟨#HI, Hr, Hs, Ht1, Hr1⟩
  ihave #Hi1 := (inv_snd m K c 0) $$ HI
  iapply (Rounds.wp_copy_pointsTo 𝒱₀ ER (Rd m) (c : Thread nD τ) none (κ := K (sndCell c 0))
    (r := 0) (d := 0) (fd := fd)
    (by rw [duties_snd]; exact Finset.mem_singleton_self _)
    () A rfl rfl
    (by rw [payload_snd, sndPay_zero]
        exact sep_mono_left (Entails.of_eq (landed_own m c (pl c 0) (pl_zero c) fd))))
  isplitr; · iexact Hi1
  isplitl [Hr]; · iexact Hr
  isplitl [Hs]; · iexact Hs
  isplitl [Ht1]; · iexact Ht1
  iexact Hr1

/-- A signal to device `pl c d`, addressed to a device `n` that equals it: the unit `d` of that device's cell is paid. -/
theorem wp_tell (κ : ℕ) (c n : Dev nD) (d : Fin 4) (hd : d ∈ ({1, 2, 3} : Finset (Fin 4))) (hn : n = pl c d) (s : Sem sig) (O : CellTallies nD τ sig Unit) (W : Waits sig Unit)
    {α : Type} {Q : α → sProp 𝕄} {kk : PUnit → Prog (TpuEff nD τ sig (Elt F) Λ₀ .tc) α} :
    iprop(cellInv ER (Rd m) κ ((pl c d : Thread nD τ), .reg s) ∗ owes (c : Thread nD τ) (O + tallyAt ((pl c d : Thread nD τ), .reg s) () 1) W
        ∗ dutyTok ER ((pl c d : Thread nD τ), .reg s) 0 d ∗ (Rd m).payload ((pl c d : Thread nD τ), .reg s) 0 d ∗ reached ER ((pl c d : Thread nD τ), .reg s) 0)
      ⊢ iprop((owes (c : Thread nD τ) O W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n : Thread nD τ) s (1#32).toInt) kk) Q) := by
  subst hn
  exact Rounds.wp_signal 𝒱₀ ER (Rd m) (c : Thread nD τ) none (dst := (pl c d : Thread nD τ)) (κ := κ)
    (by rw [duties_reg]; exact hd) ((amount_reg m (pl c d) s d).trans (by decide)) () O rfl

/-- The barrier's wait: from each peer the slot it lends and the news that its cells are open; the spent cell closes. -/
theorem wp_bar (K : GSem nD τ sig → ℕ) (c : Dev nD) (W : Waits sig Unit)
    {α : Type} {Q : α → sProp 𝕄} {kk : PUnit → Prog (TpuEff nD τ sig (Elt F) Λ₀ .tc) α} :
    iprop(invs m K ∗ levAts L lv ∗ cred (tallyAt (barCell c) () 3) ∗ atPos ER (barCell c) 0 ∅ 0 ∗ owes (c : Thread nD τ) (Osnd c) W)
      ⊢ iprop(((∃ W, owes (c : Thread nD τ) (Osnd c) W) ∗ (barPay c 1 ∗ barPay c 2 ∗ barPay c 3) ∗ semVal (barCell c) 0
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS (3#32).toInt) kk) Q) := by
  iintro ⟨#HI, #Hlev, Hc, Hat, HO⟩ Hk
  ihave #Hi := (inv_bar m K c) $$ HI
  iapply (Rounds.wp_wait_rest_token 𝒱₀ ER (Rd m) (c : Thread nD τ) none (κ := K (barCell c))
      (wpE_semWait_eq 𝒱₀ (c : Thread nD τ) none Set.univ) (Set.mem_univ _) () (O := Osnd c) (W := W) (R := 0) (m := 0) (T := ∅)
      (by rw [Nat.zero_add, expect_reg m c barS]; decide)) $$ [Hc HO Hat]
  · isplitr; · iexact Hi
    isplitl [Hc]; · iexact Hc
    isplitl [HO]; · iexact HO
    isplitr
    · iapply (mayWait c (.reg barS) 1 (Osnd c) (lv_bar c).le (above_Osnd c)); iexact Hlev
    iexact Hat
  iintro ⟨HO, Hat, -, Hpay⟩
  ihave Hp := (Entails.of_eq (rest_bar m c)) $$ Hpay
  imod (close m (K (barCell c)) (barCell c)) $$ [Hat] with Hs
  · isplitr; · iexact Hi
    iexact Hat
  iapply Hk
  isplitl [HO]; · iexists _; iexact HO
  isplitl [Hp]; · iexact Hp
  iexact Hs

/-- The closing barrier's wait, nothing owed any more; the spent cell closes. -/
theorem wp_fin (K : GSem nD τ sig → ℕ) (c : Dev nD) (W : Waits sig Unit)
    {α : Type} {Q : α → sProp 𝕄} {kk : PUnit → Prog (TpuEff nD τ sig (Elt F) Λ₀ .tc) α} :
    iprop(invs m K ∗ cred (tallyAt (finCell c) () 3) ∗ atPos ER (finCell c) 0 ∅ 0 ∗ owes (c : Thread nD τ) 0 W)
      ⊢ iprop(((∃ W, owes (c : Thread nD τ) 0 W) ∗ semVal (finCell c) 0
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait finS (3#32).toInt) kk) Q) := by
  iintro ⟨#HI, Hc, Hat, HO⟩ Hk
  ihave #Hi := (inv_fin m K c) $$ HI
  iapply (Rounds.wp_wait_rest_token 𝒱₀ ER (Rd m) (c : Thread nD τ) none (κ := K (finCell c))
      (wpE_semWait_eq 𝒱₀ (c : Thread nD τ) none Set.univ) (Set.mem_univ _) () (O := 0) (W := W) (R := 0) (m := 0) (T := ∅)
      (by rw [Nat.zero_add, expect_reg m c finS]; decide)) $$ [Hc HO Hat]
  · isplitr; · iexact Hi
    isplitl [Hc]; · iexact Hc
    isplitl [HO]; · iexact HO
    isplitr
    · rw [MayWait_zero]; iempintro
    iexact Hat
  iintro ⟨HO, Hat, -, -⟩
  imod (close m (K (finCell c)) (finCell c)) $$ [Hat] with Hs
  · isplitr; · iexact Hi
    iexact Hat
  iapply Hk
  isplitl [HO]; · iexists _; iexact HO
  iexact Hs

end Cert.KernelIdeal.Fused

end
-- ==== Proof.Body.lean ====
/-
  The kernel's body, once at a symbolic device: what each grid point starts from and what it leaves.
-/
module

public import proofs.«01_k».proof.Proof.Steps

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## What a device holds between grid points -/

/-- The table and the two scratch buffers of the products, as grid point `t` finds them. -/
def scr (c : Dev nD) (t : ℕ) : sProp 𝕄 :=
  iprop(tabPts c ∗ (∃ f, ⌜WbOk m c t f⌝ ∗ wbPts c f) ∗ (∃ f, ⌜AccOk m c t f⌝ ∗ accPts c f))

/-- Receive semaphore `k`, awaited at grid point `w`: up to that point its credit and its position; after it the slot,
    filled, and the counter back at zero. -/
def recvSt (c : Dev nD) (t : ℕ) (k : Fin 4) (w : ℕ) : sProp 𝕄 :=
  if t ≤ w then iprop(cred (tallyAt (rcvCell c k) () A) ∗ atPos ER (rcvCell c k) 0 ∅ 0)
  else iprop(slotPts c (pl c (-k)) (xF m c) ∗ semVal (rcvCell c k) 0)

/-- The four slots of `xfull`, as grid point `t` finds them. -/
def slotsSt (c : Dev nD) (t : ℕ) : sProp 𝕄 :=
  iprop(slotPts c (pl c 0) (xF m c) ∗ recvSt m c t 1 5 ∗ recvSt m c t 3 9 ∗ recvSt m c t 2 13)

/-- The three transfers under way. -/
def sends (c : Dev nD) : sProp 𝕄 :=
  iprop((cred (tallyAt (sndCell c 1) () A) ∗ atPos ER (sndCell c 1) 0 ∅ 0)
    ∗ (cred (tallyAt (sndCell c 2) () A) ∗ atPos ER (sndCell c 2) 0 ∅ 0)
    ∗ (cred (tallyAt (sndCell c 3) () A) ∗ atPos ER (sndCell c 3) 0 ∅ 0))

/-- The closing barrier, still ahead; without the news that the peers' cells are open; with it. -/
def finMine (c : Dev nD) : sProp 𝕄 :=
  iprop(cred (tallyAt (finCell c) () 3) ∗ atPos ER (finCell c) 0 ∅ 0
    ∗ dutyTok ER (finCell (pl c 1)) 0 1 ∗ dutyTok ER (finCell (pl c 2)) 0 2 ∗ dutyTok ER (finCell (pl c 3)) 0 3)
def finNews (c : Dev nD) : sProp 𝕄 :=
  iprop(reached ER (finCell (pl c 1)) 0 ∗ reached ER (finCell (pl c 2)) 0 ∗ reached ER (finCell (pl c 3)) 0)

/-- What grid point 0 leaves for the end: the device's own rows back, and the counters of the cells it has spent or never uses. -/
def spent (c : Dev nD) : sProp 𝕄 :=
  iprop(rowsPts m c (pl c 0) ∗ semVal (barCell c) 0 ∗ semVal (sndCell c 0) 0 ∗ semVal (rcvCell c 0) 0)

/-- Before grid point 0. -/
def stFirst (c : Dev nD) : sProp 𝕄 :=
  iprop((∃ K, invs m K) ∗ levAts L lv ∗ scr m c 0
    ∗ ((∃ f, slotPts c (pl c 0) f) ∗ (∃ f, slotPts c (pl c 1) f) ∗ (∃ f, slotPts c (pl c 2) f) ∗ (∃ f, slotPts c (pl c 3) f))
    ∗ (rowsPts m c (pl c 0) ∗ rowsPts m c (pl c 1) ∗ rowsPts m c (pl c 2) ∗ rowsPts m c (pl c 3))
    ∗ (cred (tallyAt (barCell c) () 3) ∗ cred (tallyAt (rcvCell c 1) () A) ∗ cred (tallyAt (rcvCell c 2) () A) ∗ cred (tallyAt (rcvCell c 3) () A))
    ∗ (atPos ER (barCell c) 0 ∅ 0 ∗ atPos ER (sndCell c 0) 0 ∅ 0 ∗ atPos ER (sndCell c 1) 0 ∅ 0 ∗ atPos ER (sndCell c 2) 0 ∅ 0 ∗ atPos ER (sndCell c 3) 0 ∅ 0
        ∗ atPos ER (rcvCell c 1) 0 ∅ 0 ∗ atPos ER (rcvCell c 2) 0 ∅ 0 ∗ atPos ER (rcvCell c 3) 0 ∅ 0)
    ∗ (reached ER (barCell (pl c 1)) 0 ∗ reached ER (barCell (pl c 2)) 0 ∗ reached ER (barCell (pl c 3)) 0
        ∗ reached ER (sndCell c 0) 0 ∗ reached ER (sndCell c 1) 0 ∗ reached ER (sndCell c 2) 0 ∗ reached ER (sndCell c 3) 0
        ∗ reached ER (rcvCell c 1) 0 ∗ reached ER (rcvCell c 2) 0 ∗ reached ER (rcvCell c 3) 0 ∗ reached ER (finCell c) 0)
    ∗ (dutyTok ER (barCell (pl c 1)) 0 1 ∗ dutyTok ER (barCell (pl c 2)) 0 2 ∗ dutyTok ER (barCell (pl c 3)) 0 3)
    ∗ (dutyTok ER (sndCell c 0) 0 0 ∗ dutyTok ER (sndCell c 1) 0 0 ∗ dutyTok ER (sndCell c 2) 0 0 ∗ dutyTok ER (sndCell c 3) 0 0)
    ∗ (dutyTok ER (rcvCell (pl c 1) 1) 0 0 ∗ dutyTok ER (rcvCell (pl c 2) 2) 0 0 ∗ dutyTok ER (rcvCell (pl c 3) 3) 0 0)
    ∗ finMine c ∗ semVal (rcvCell c 0) 0)

/-- Before grid point `t`, 1 ≤ t ≤ 16. -/
def stMid (c : Dev nD) (t : ℕ) : sProp 𝕄 :=
  iprop((∃ K, invs m K) ∗ levAts L lv ∗ scr m c t ∗ slotsSt m c t ∗ sends c ∗ finMine c ∗ finNews c ∗ spent m c)

/-- After the last grid point: everything back, every counter at zero. -/
def stLast (c : Dev nD) : sProp 𝕄 :=
  iprop(tabPts c ∗ (∃ f, wbPts c f) ∗ (∃ f, accPts c f)
    ∗ (slotPts c (pl c 0) (xF m c) ∗ slotPts c (pl c 1) (xF m c) ∗ slotPts c (pl c 2) (xF m c) ∗ slotPts c (pl c 3) (xF m c))
    ∗ (rowsPts m c (pl c 0) ∗ rowsPts m c (pl c 1) ∗ rowsPts m c (pl c 2) ∗ rowsPts m c (pl c 3))
    ∗ (semVal (barCell c) 0 ∗ semVal (finCell c) 0 ∗ semVal (sndCell c 0) 0 ∗ semVal (sndCell c 1) 0 ∗ semVal (sndCell c 2) 0 ∗ semVal (sndCell c 3) 0
        ∗ semVal (rcvCell c 0) 0 ∗ semVal (rcvCell c 1) 0 ∗ semVal (rcvCell c 2) 0 ∗ semVal (rcvCell c 3) 0))

/-! ## The slots -/

omit [FloatOps F] in
theorem recvSt_le (c : Dev nD) {t : ℕ} (k : Fin 4) {w : ℕ} (h : t ≤ w) :
    recvSt (F := F) m c t k w = iprop(cred (tallyAt (rcvCell c k) () A) ∗ atPos ER (rcvCell c k) 0 ∅ 0) := if_pos h
omit [FloatOps F] in
theorem recvSt_gt (c : Dev nD) {t : ℕ} (k : Fin 4) {w : ℕ} (h : w < t) :
    recvSt (F := F) m c t k w = iprop(slotPts c (pl c (-k)) (xF m c) ∗ semVal (rcvCell c k) 0) := if_neg (Nat.not_le.mpr h)
omit [FloatOps F] in
theorem recvSt_keep (c : Dev nD) (t : ℕ) (k : Fin 4) (w : ℕ) (h : t ≠ w) : recvSt (F := F) m c (t + 1) k w = recvSt m c t k w := by
  by_cases hlt : t ≤ w
  · rw [recvSt_le m c k hlt, recvSt_le m c k (by omega)]
  · rw [recvSt_gt m c k (by omega), recvSt_gt m c k (by omega)]

omit [FloatOps F] in
/-- A grid point that awaits no landing leaves the slots as they are. -/
theorem slots_keep (c : Dev nD) (t : ℕ) (h1 : t ≠ 5) (h2 : t ≠ 9) (h3 : t ≠ 13) : slotsSt (F := F) m c t = slotsSt m c (t + 1) := by
  unfold slotsSt; rw [recvSt_keep m c t 1 5 h1, recvSt_keep m c t 3 9 h2, recvSt_keep m c t 2 13 h3]

omit [FloatOps F] in
theorem slots_5 (c : Dev nD) {t : ℕ} (e : t = 5) : slotsSt (F := F) m c t ⊢ iprop((cred (tallyAt (rcvCell c 1) () A) ∗ atPos ER (rcvCell c 1) 0 ∅ 0)
    ∗ (slotPts c (pl c (-1)) (xF m c) ∗ semVal (rcvCell c 1) 0 -∗ slotsSt m c (t + 1))) := by
  subst e
  unfold slotsSt
  rw [recvSt_keep m c 5 3 9 (by decide), recvSt_keep m c 5 2 13 (by decide), recvSt_le m c 1 (le_refl 5), recvSt_gt m c 1 (Nat.lt_succ_self 5)]
  iintro ⟨H0, H1, H2, H3⟩
  isplitl [H1]; · iexact H1
  iintro H1
  isplitl [H0]; · iexact H0
  isplitl [H1]; · iexact H1
  isplitl [H2]; · iexact H2
  iexact H3
omit [FloatOps F] in
theorem slots_9 (c : Dev nD) {t : ℕ} (e : t = 9) : slotsSt (F := F) m c t ⊢ iprop((cred (tallyAt (rcvCell c 3) () A) ∗ atPos ER (rcvCell c 3) 0 ∅ 0)
    ∗ (slotPts c (pl c (-3)) (xF m c) ∗ semVal (rcvCell c 3) 0 -∗ slotsSt m c (t + 1))) := by
  subst e
  unfold slotsSt
  rw [recvSt_keep m c 9 1 5 (by decide), recvSt_keep m c 9 2 13 (by decide), recvSt_le m c 3 (le_refl 9), recvSt_gt m c 3 (Nat.lt_succ_self 9)]
  iintro ⟨H0, H1, H2, H3⟩
  isplitl [H2]; · iexact H2
  iintro H2
  isplitl [H0]; · iexact H0
  isplitl [H1]; · iexact H1
  isplitl [H2]; · iexact H2
  iexact H3
omit [FloatOps F] in
theorem slots_13 (c : Dev nD) {t : ℕ} (e : t = 13) : slotsSt (F := F) m c t ⊢ iprop((cred (tallyAt (rcvCell c 2) () A) ∗ atPos ER (rcvCell c 2) 0 ∅ 0)
    ∗ (slotPts c (pl c (-2)) (xF m c) ∗ semVal (rcvCell c 2) 0 -∗ slotsSt m c (t + 1))) := by
  subst e
  unfold slotsSt
  rw [recvSt_keep m c 13 1 5 (by decide), recvSt_keep m c 13 3 9 (by decide), recvSt_le m c 2 (le_refl 13), recvSt_gt m c 2 (Nat.lt_succ_self 13)]
  iintro ⟨H0, H1, H2, H3⟩
  isplitl [H3]; · iexact H3
  iintro H3
  isplitl [H0]; · iexact H0
  isplitl [H1]; · iexact H1
  isplitl [H2]; · iexact H2
  iexact H3

/-- The device whose plane the product at grid point `t` consumes, phase by phase. -/
theorem src_phase (c : Dev nD) (t : ℕ) (h1 : 1 ≤ t) (h2 : t ≤ 16) :
    src c (t - 1) = if t ≤ 4 then pl c 0 else if t ≤ 8 then pl c (-1) else if t ≤ 12 then pl c (-3) else pl c (-2) := by
  unfold src
  interval_cases t <;> rfl

omit [FloatOps F] in
/-- The plane the product consumes is among the slots already filled. -/
theorem slots_borrow (c : Dev nD) (t : ℕ) (h1 : 1 ≤ t) (h2 : t ≤ 16) : slotsSt (F := F) m c (t + 1)
    ⊢ iprop(slotPts c (src c (t - 1)) (xF m c) ∗ (slotPts c (src c (t - 1)) (xF m c) -∗ slotsSt m c (t + 1))) := by
  rw [src_phase c t h1 h2]
  unfold slotsSt
  by_cases e1 : t ≤ 4
  · rw [if_pos e1]
    iintro ⟨H0, H⟩
    isplitl [H0]; · iexact H0
    iintro H0
    isplitl [H0]; · iexact H0
    iexact H
  rw [if_neg e1]
  by_cases e2 : t ≤ 8
  · rw [if_pos e2, recvSt_gt m c 1 (by omega)]
    iintro ⟨H0, ⟨H1, Hs⟩, H⟩
    isplitl [H1]; · iexact H1
    iintro H1
    isplitl [H0]; · iexact H0
    isplitl [H1 Hs]
    · isplitl [H1]; · iexact H1
      iexact Hs
    iexact H
  rw [if_neg e2]
  by_cases e3 : t ≤ 12
  · rw [if_pos e3, recvSt_gt m c 3 (by omega)]
    iintro ⟨H0, H1, ⟨H2, Hs⟩, H⟩
    isplitl [H2]; · iexact H2
    iintro H2
    isplitl [H0]; · iexact H0
    isplitl [H1]; · iexact H1
    isplitl [H2 Hs]
    · isplitl [H2]; · iexact H2
      iexact Hs
    iexact H
  rw [if_neg e3, recvSt_gt m c 2 (by omega)]
  iintro ⟨H0, H1, H2, H3, Hs⟩
  isplitl [H3]; · iexact H3
  iintro H3
  isplitl [H0]; · iexact H0
  isplitl [H1]; · iexact H1
  isplitl [H2]; · iexact H2
  isplitl [H3]; · iexact H3
  iexact Hs

/-! ## Grid points 1–4 -/

abbrev bodyAt (i : grid0.Coords) (a3 : Memref sig .tc .vmem S1024x2048 .bf16) (h3 : a3.IsWhole) (a4 : Memref sig .tc .vmem S1024x2048 .bf16) (h4 : a4.IsWhole) :
    Prog (TpuEff nD τ sig (Elt F) Λ₀ .tc) PUnit :=
  cc0_body i (Memref.whole main_v8) (Memref.isWhole_whole _) (Memref.whole main_arg0) (Memref.isWhole_whole _) a3 h3 a4 h4
     accM (Memref.isWhole_whole _) xM (Memref.isWhole_whole _) wbM (Memref.isWhole_whole _) cc0_scratch3 cc0_scratch4 cc0_scoped0

set_option maxHeartbeats 400000 in
/-- Phase 0: the cast, and the product of the device's own plane, kept. -/
theorem body_keep (c : Dev nD) (i : grid0.Coords) (t : ℕ) (hit : (i 0).val = t) (h1 : 1 ≤ t) (h2 : t ≤ 4) (a3) (h3) (a4) (h4) (Q : PUnit → sProp 𝕄) :
    iprop(stMid m c t ∗ owns (c : Thread nD τ) a3 fullShare (wBlk m c t) ∗ (stMid m c (t + 1) ∗ owns (c : Thread nD τ) a3 fullShare (wBlk m c t) -∗ Q ⟨⟩))
      ⊢ wp frame (wpE (defs₀ (F := F)) 𝒱₀ (c : Thread nD τ) none) Set.univ (bodyAt i a3 h3 a4 h4) Q := by
  have c1 : ¬ k0_cond1 i = 1#1 := fun h => by have := (cond1_iff i).mp h; omega
  have c2 : ¬ k0_cond2 i = 1#1 := fun h => by have := (cond2_iff i).mp h; omega
  have c3 : ¬ k0_cond3 i = 1#1 := fun h => by have := (cond3_iff i).mp h; omega
  have c4 : ¬ k0_cond4 i = 1#1 := fun h => by have := (cond4_iff i).mp h; omega
  have c5 : k0_cond5 i = 1#1 := (cond5_iff i).mpr (by omega)
  have c6 : k0_cond6 i = 1#1 := (cond6_iff i).mpr (by omega)
  have hp : 0 < (i 0).val := by omega
  have c7 : k0_cond7 i = 1#1 := (cond7_iff i hp).mpr (by omega)
  have c8 : ¬ k0_cond8 i = 1#1 := fun h => by have := (cond8_iff i hp).mp h; omega
  have c9 : ¬ k0_cond9 i = 1#1 := fun h => by have := (cond9_iff i hp).mp h; omega
  have c10 : ¬ k0_cond10 i = 1#1 := fun h => by have := (cond10_iff i).mp h; omega
  unfold bodyAt
  simp only [cc0_body_eq_skeleton]
  unfold cc0_body_skel
  simp only [↓dif_neg c1, ↓dif_neg c2, ↓dif_neg c3, ↓dif_neg c4, ↓dif_pos c5, ↓dif_pos c6, ↓dif_neg c9, ↓dif_neg c10]
  simp only [k0_part3_eq_skeleton]
  unfold k0_part3_skel
  simp only [↓dif_pos c7, ↓dif_neg c8]
  simp only [smemLoad, smemLoadElt, Prog.lift, Prog.bind_op, Prog.bind_ret, Prog.pure_eq_ret, wp_deviceId]
  unfold stMid scr
  rw [slots_keep m c t (by omega) (by omega) (by omega)]
  iintro ⟨⟨HI, Hlev, ⟨Ht, ⟨%fw, %hfw, Hw⟩, ⟨%fa, %hfa, Ha⟩⟩, Hsl, Hrest⟩, H3, Hk⟩
  iapply (wp_cast c a3 (wBlk m c t) fw (k0_off8 i) _) $$ [H3 Hw]
  · isplitl [H3]; · iexact H3
    iexact Hw
  iintro ⟨H3, Hw⟩
  ihave Hb := (slots_borrow m c t h1 (by omega)) $$ Hsl
  icases Hb with ⟨Hx, Hback⟩
  iapply (wp_load_rect 𝒱₀ (c : Thread nD τ) none Set.univ (m := (Memref.whole main_v8 : Memref sig .tc .smem S4 .i32)) (r := Rect.unit (s := S4) (k0_off9 i) S1.size (k0_off9_inb i c6)) (S := Finset.univ) (f := tab c) (Finset.subset_univ _)) $$ Ht
  iintro Ht
  have hw := word_eq (F := F) c i hp (k0_off9_inb i c6) (Shape.Idx.first (numel1_S1.symm ▸ Nat.one_pos))
  generalize ((Memref.whole main_v8 : Memref sig .tc .smem S4 .i32).access (Rect.unit (s := S4) (k0_off9 i) S1.size (k0_off9_inb i c6))).read (Elt F) (tab c) (Shape.Idx.first (numel1_S1.symm ▸ Nat.one_pos)) = v at hw ⊢
  rw [hit] at hw
  rw [wp_assume_of 𝒱₀ (c : Thread nD τ) none Set.univ (chk1 i v (src c (t - 1)) hw)]
  iapply (wp_plane m c (t - 1) _ ((off10_eq v).trans (by rw [hw]))) $$ Hx
  iintro Hx
  iapply (wp_load_rect 𝒱₀ (c : Thread nD τ) none Set.univ (m := wbM) (r := Rect.unit (s := S2x1024x2048) (k0_off11 i) S1x1024x2048.size (k0_off11_inb i c6)) (S := Finset.univ) (f := _) (Finset.subset_univ _)) $$ Hw
  iintro Hw
  ihave Hsl := Hback $$ Hx
  rw [hfw.read m h1 (by omega) (k0_off8 i) (by rw [k0_off8_eq, hit]) _ _ (k0_off11 i) (by rw [off11_eq i hp, hit]) _]
  iapply (wp_keep c _ fa (k0_off12 i) _) $$ Ha
  iintro Ha
  rw [wp_ret]
  imodintro
  iapply Hk
  isplitr [H3]
  · isplitl [HI]; · iexact HI
    isplitl [Hlev]; · iexact Hlev
    isplitl [Ht Hw Ha]
    · isplitl [Ht]; · iexact Ht
      isplitl [Hw]
      · iexists _
        isplitr
        swap
        · iexact Hw
        · ipureintro
          exact WbOk.step m (k0_off8 i) (by rw [k0_off8_eq, hit]) _ _ rfl
      · iexists _
        isplitr
        swap
        · iexact Ha
        · ipureintro
          exact hfa.step m h1 (by omega) (k0_off12 i) (by rw [off12_eq i hp, hit]) _ _ (part_first m c (t - 1) (by omega)).symm
    isplitl [Hsl]; · iexact Hsl
    iexact Hrest
  · iexact H3

set_option maxHeartbeats 1600000 in
/-- Phases 1 and 2: the landing awaited if this is the phase's first grid point; the cast; the product of the plane, added. -/
theorem body_add (c : Dev nD) (i : grid0.Coords) (t : ℕ) (hit : (i 0).val = t) (h1 : 5 ≤ t) (h2 : t ≤ 12) (a3) (h3) (a4) (h4) (Q : PUnit → sProp 𝕄) :
    iprop(stMid m c t ∗ (∃ W, owes (c : Thread nD τ) (Ofin c) W) ∗ owns (c : Thread nD τ) a3 fullShare (wBlk m c t)
        ∗ (stMid m c (t + 1) ∗ (∃ W, owes (c : Thread nD τ) (Ofin c) W) ∗ owns (c : Thread nD τ) a3 fullShare (wBlk m c t) -∗ Q ⟨⟩))
      ⊢ wp frame (wpE (defs₀ (F := F)) 𝒱₀ (c : Thread nD τ) none) Set.univ (bodyAt i a3 h3 a4 h4) Q := by
  have c1 : ¬ k0_cond1 i = 1#1 := fun h => by have := (cond1_iff i).mp h; omega
  have c4 : ¬ k0_cond4 i = 1#1 := fun h => by have := (cond4_iff i).mp h; omega
  have c5 : k0_cond5 i = 1#1 := (cond5_iff i).mpr (by omega)
  have c6 : k0_cond6 i = 1#1 := (cond6_iff i).mpr (by omega)
  have hp : 0 < (i 0).val := by omega
  have c7 : ¬ k0_cond7 i = 1#1 := fun h => by have := (cond7_iff i hp).mp h; omega
  have c8 : k0_cond8 i = 1#1 := (cond8_iff i hp).mpr (by omega)
  have c9 : ¬ k0_cond9 i = 1#1 := fun h => by have := (cond9_iff i hp).mp h; omega
  have c10 : ¬ k0_cond10 i = 1#1 := fun h => by have := (cond10_iff i).mp h; omega
  unfold bodyAt
  simp only [cc0_body_eq_skeleton]
  unfold cc0_body_skel
  simp only [↓dif_neg c1, ↓dif_neg c4, ↓dif_pos c5, ↓dif_pos c6, ↓dif_neg c9, ↓dif_neg c10]
  simp only [k0_part3_eq_skeleton]
  unfold k0_part3_skel
  simp only [↓dif_neg c7, ↓dif_pos c8]
  unfold stMid scr
  iintro ⟨⟨⟨%K, #HI⟩, #Hlev, ⟨Ht, ⟨%fw, %hfw, Hw⟩, ⟨%fa, %hfa, Ha⟩⟩, Hsl, Hrest⟩, ⟨%W, HO⟩, H3, Hk⟩
  rcases (by omega : t = 5 ∨ t = 9 ∨ (t ≠ 5 ∧ t ≠ 9)) with e | e | ⟨e5, e9⟩
  on_goal 1 =>
    have c2 : k0_cond2 i = 1#1 := (cond2_iff i).mpr (by omega)
    have c3 : ¬ k0_cond3 i = 1#1 := fun h => by have := (cond3_iff i).mp h; omega
    simp only [↓dif_pos c2, ↓dif_neg c3, smemLoad, smemLoadElt, Prog.lift, Prog.bind_op, Prog.bind_ret, Prog.pure_eq_ret, wp_deviceId]
    ihave Hb := (slots_5 m c e) $$ Hsl
    icases Hb with ⟨Hsl, Hb⟩
    iapply (wp_recv m K c (k := 1) (by decide) W _ rcvS_1 ![0, 0] (k0_off5 c) inb_S4096x1024_S1024x1024_0_0 (k0_off5_inb i c c2)) $$ [Hsl HO]
    · isplitr; · iexact HI
      isplitr; · iexact Hlev
      icases Hsl with ⟨H1, H2⟩
      isplitl [H1]; · iexact H1
      isplitl [H2]; · iexact H2
      iexact HO
    iintro ⟨HO, Hp, Hs⟩
    ihave Hsl := Hb $$ [Hp Hs]
    · isplitl [Hp]; · iexact Hp
      iexact Hs
  on_goal 2 =>
    have c2 : ¬ k0_cond2 i = 1#1 := fun h => by have := (cond2_iff i).mp h; omega
    have c3 : k0_cond3 i = 1#1 := (cond3_iff i).mpr (by omega)
    simp only [↓dif_neg c2, ↓dif_pos c3, smemLoad, smemLoadElt, Prog.lift, Prog.bind_op, Prog.bind_ret, Prog.pure_eq_ret, wp_deviceId]
    ihave Hb := (slots_9 m c e) $$ Hsl
    icases Hb with ⟨Hsl, Hb⟩
    iapply (wp_recv m K c (k := 3) (by decide) W _ rcvS_3 ![0, 0] (k0_off6 c) inb_S4096x1024_S1024x1024_0_0 (k0_off6_inb i c c3)) $$ [Hsl HO]
    · isplitr; · iexact HI
      isplitr; · iexact Hlev
      icases Hsl with ⟨H1, H2⟩
      isplitl [H1]; · iexact H1
      isplitl [H2]; · iexact H2
      iexact HO
    iintro ⟨HO, Hp, Hs⟩
    ihave Hsl := Hb $$ [Hp Hs]
    · isplitl [Hp]; · iexact Hp
      iexact Hs
  on_goal 3 =>
    have c2 : ¬ k0_cond2 i = 1#1 := fun h => by have := (cond2_iff i).mp h; omega
    have c3 : ¬ k0_cond3 i = 1#1 := fun h => by have := (cond3_iff i).mp h; omega
    simp only [↓dif_neg c2, ↓dif_neg c3, smemLoad, smemLoadElt, Prog.lift, Prog.bind_op, Prog.bind_ret, Prog.pure_eq_ret, wp_deviceId]
    ihave Hsl := (Entails.of_eq (slots_keep m c t e5 e9 (by omega))) $$ Hsl
    ihave HO := (owes_any c (Ofin c) W) $$ HO
  all_goals
      iapply (wp_cast c a3 (wBlk m c t) fw (k0_off8 i) _) $$ [H3 Hw]
      · isplitl [H3]; · iexact H3
        iexact Hw
      iintro ⟨H3, Hw⟩
      ihave Hb := (slots_borrow m c t (by omega) (by omega)) $$ Hsl
      icases Hb with ⟨Hx, Hback⟩
      iapply (wp_load_rect 𝒱₀ (c : Thread nD τ) none Set.univ (m := (Memref.whole main_v8 : Memref sig .tc .smem S4 .i32)) (r := Rect.unit (s := S4) (k0_off9 i) S1.size (k0_off9_inb i c6)) (S := Finset.univ) (f := tab c) (Finset.subset_univ _)) $$ Ht
      iintro Ht
      have hw := word_eq (F := F) c i hp (k0_off9_inb i c6) (Shape.Idx.first (numel1_S1.symm ▸ Nat.one_pos))
      generalize ((Memref.whole main_v8 : Memref sig .tc .smem S4 .i32).access (Rect.unit (s := S4) (k0_off9 i) S1.size (k0_off9_inb i c6))).read (Elt F) (tab c) (Shape.Idx.first (numel1_S1.symm ▸ Nat.one_pos)) = v at hw ⊢
      rw [hit] at hw
      rw [wp_assume_of 𝒱₀ (c : Thread nD τ) none Set.univ (chk1 i v (src c (t - 1)) hw)]
      iapply (wp_plane m c (t - 1) _ ((off10_eq v).trans (by rw [hw]))) $$ Hx
      iintro Hx
      iapply (wp_load_rect 𝒱₀ (c : Thread nD τ) none Set.univ (m := wbM) (r := Rect.unit (s := S2x1024x2048) (k0_off11 i) S1x1024x2048.size (k0_off11_inb i c6)) (S := Finset.univ) (f := _) (Finset.subset_univ _)) $$ Hw
      iintro Hw
      ihave Hsl := Hback $$ Hx
      rw [hfw.read m (by omega) (by omega) (k0_off8 i) (by rw [k0_off8_eq, hit]) _ _ (k0_off11 i) (by rw [off11_eq i hp, hit]) _]
      iapply (wp_addTo c _ fa (k0_off13 i) _) $$ Ha
      iintro Ha
      rw [hfa.read m (by omega) (by omega) (k0_off13 i) (by rw [off13_eq i hp, hit]) _]
      rw [wp_ret]
      imodintro
      iapply Hk
      isplitr [HO H3]
      · isplitr; · iexists K; iexact HI
        isplitr; · iexact Hlev
        isplitl [Ht Hw Ha]
        · isplitl [Ht]; · iexact Ht
          isplitl [Hw]
          · iexists _
            isplitr
            swap
            · iexact Hw
            · ipureintro
              exact WbOk.step m (k0_off8 i) (by rw [k0_off8_eq, hit]) _ _ rfl
          · iexists _
            isplitr
            swap
            · iexact Ha
            · ipureintro
              exact hfa.step m (by omega) (by omega) (k0_off13 i) (by rw [off13_eq i hp, hit]) _ _ (part_next m c (t - 1) (by omega)).symm
        isplitl [Hsl]; · iexact Hsl
        iexact Hrest
      · isplitl [HO]; · iexact HO
        iexact H3

/-- What the last phase's product and the sum over the other phases make of a block. -/
theorem outV_eq (c : Dev nD) (t : ℕ) (h1 : 13 ≤ t) (h2 : t ≤ 16) :
    k0_pay2 (k0_pay3 (xs m c (t - 1)) (wb m c (t - 1))) (part m c (t - 1 - 4)) = outV m c (t - 13) := by
  unfold outV part
  have e1 : 12 + (t - 13) = t - 1 := by omega
  have e2 : (t - 1 - 4) % 4 = t - 13 := by omega
  have e3 : (t - 1 - 4) / 4 = 2 := by omega
  rw [e1, e2, e3]

set_option maxHeartbeats 1600000 in
/-- The last phase but its last grid point: the landing awaited at the phase's first grid point; the cast; the product of
    the plane, added to the sum of the others and stored as a block of the result. -/
theorem body_out (c : Dev nD) (i : grid0.Coords) (t : ℕ) (hit : (i 0).val = t) (h1 : 13 ≤ t) (h2 : t ≤ 15) (a3) (h3) (a4) (h4) (X) (Q : PUnit → sProp 𝕄) :
    iprop(stMid m c t ∗ (∃ W, owes (c : Thread nD τ) (Ofin c) W) ∗ owns (c : Thread nD τ) a3 fullShare (wBlk m c t) ∗ owns (c : Thread nD τ) a4 fullShare X
        ∗ (stMid m c (t + 1) ∗ (∃ W, owes (c : Thread nD τ) (Ofin c) W) ∗ owns (c : Thread nD τ) a3 fullShare (wBlk m c t)
            ∗ owns (c : Thread nD τ) a4 fullShare (outV m c (t - 13)) -∗ Q ⟨⟩))
      ⊢ wp frame (wpE (defs₀ (F := F)) 𝒱₀ (c : Thread nD τ) none) Set.univ (bodyAt i a3 h3 a4 h4) Q := by
  have c1 : ¬ k0_cond1 i = 1#1 := fun h => by have := (cond1_iff i).mp h; omega
  have c2 : ¬ k0_cond2 i = 1#1 := fun h => by have := (cond2_iff i).mp h; omega
  have c3 : ¬ k0_cond3 i = 1#1 := fun h => by have := (cond3_iff i).mp h; omega
  have c5 : k0_cond5 i = 1#1 := (cond5_iff i).mpr (by omega)
  have c6 : k0_cond6 i = 1#1 := (cond6_iff i).mpr (by omega)
  have hp : 0 < (i 0).val := by omega
  have c7 : ¬ k0_cond7 i = 1#1 := fun h => by have := (cond7_iff i hp).mp h; omega
  have c8 : ¬ k0_cond8 i = 1#1 := fun h => by have := (cond8_iff i hp).mp h; omega
  have c9 : k0_cond9 i = 1#1 := (cond9_iff i hp).mpr (by omega)
  have c10 : ¬ k0_cond10 i = 1#1 := fun h => by have := (cond10_iff i).mp h; omega
  unfold bodyAt
  simp only [cc0_body_eq_skeleton]
  unfold cc0_body_skel
  simp only [↓dif_neg c1, ↓dif_neg c2, ↓dif_neg c3, ↓dif_pos c5, ↓dif_pos c6, ↓dif_pos c9, ↓dif_neg c10]
  simp only [k0_part3_eq_skeleton]
  unfold k0_part3_skel
  simp only [↓dif_neg c7, ↓dif_neg c8]
  unfold stMid scr
  iintro ⟨⟨⟨%K, #HI⟩, #Hlev, ⟨Ht, ⟨%fw, %hfw, Hw⟩, ⟨%fa, %hfa, Ha⟩⟩, Hsl, Hrest⟩, ⟨%W, HO⟩, H3, H4, Hk⟩
  rcases (by omega : t = 13 ∨ t ≠ 13) with e | e13
  on_goal 1 =>
    have c4 : k0_cond4 i = 1#1 := (cond4_iff i).mpr (by omega)
    simp only [↓dif_pos c4, smemLoad, smemLoadElt, Prog.lift, Prog.bind_op, Prog.bind_ret, Prog.pure_eq_ret, wp_deviceId]
    ihave Hb := (slots_13 m c e) $$ Hsl
    icases Hb with ⟨Hsl, Hb⟩
    iapply (wp_recv m K c (k := 2) (by decide) W _ rcvS_2 ![0, 0] (k0_off7 c) inb_S4096x1024_S1024x1024_0_0 (k0_off7_inb i c c4)) $$ [Hsl HO]
    · isplitr; · iexact HI
      isplitr; · iexact Hlev
      icases Hsl with ⟨H1, H2⟩
      isplitl [H1]; · iexact H1
      isplitl [H2]; · iexact H2
      iexact HO
    iintro ⟨HO, Hp, Hs⟩
    ihave Hsl := Hb $$ [Hp Hs]
    · isplitl [Hp]; · iexact Hp
      iexact Hs
  on_goal 2 =>
    have c4 : ¬ k0_cond4 i = 1#1 := fun h => by have := (cond4_iff i).mp h; omega
    simp only [↓dif_neg c4, smemLoad, smemLoadElt, Prog.lift, Prog.bind_op, Prog.bind_ret, Prog.pure_eq_ret, wp_deviceId]
    ihave Hsl := (Entails.of_eq (slots_keep m c t (by omega) (by omega) e13)) $$ Hsl
    ihave HO := (owes_any c (Ofin c) W) $$ HO
  all_goals
    iapply (wp_cast c a3 (wBlk m c t) fw (k0_off8 i) _) $$ [H3 Hw]
    · isplitl [H3]; · iexact H3
      iexact Hw
    iintro ⟨H3, Hw⟩
    ihave Hb := (slots_borrow m c t (by omega) (by omega)) $$ Hsl
    icases Hb with ⟨Hx, Hback⟩
    iapply (wp_load_rect 𝒱₀ (c : Thread nD τ) none Set.univ (m := (Memref.whole main_v8 : Memref sig .tc .smem S4 .i32)) (r := Rect.unit (s := S4) (k0_off9 i) S1.size (k0_off9_inb i c6)) (S := Finset.univ) (f := tab c) (Finset.subset_univ _)) $$ Ht
    iintro Ht
    have hw := word_eq (F := F) c i hp (k0_off9_inb i c6) (Shape.Idx.first (numel1_S1.symm ▸ Nat.one_pos))
    generalize ((Memref.whole main_v8 : Memref sig .tc .smem S4 .i32).access (Rect.unit (s := S4) (k0_off9 i) S1.size (k0_off9_inb i c6))).read (Elt F) (tab c) (Shape.Idx.first (numel1_S1.symm ▸ Nat.one_pos)) = v at hw ⊢
    rw [hit] at hw
    rw [wp_assume_of 𝒱₀ (c : Thread nD τ) none Set.univ (chk1 i v (src c (t - 1)) hw)]
    iapply (wp_plane m c (t - 1) _ ((off10_eq v).trans (by rw [hw]))) $$ Hx
    iintro Hx
    iapply (wp_load_rect 𝒱₀ (c : Thread nD τ) none Set.univ (m := wbM) (r := Rect.unit (s := S2x1024x2048) (k0_off11 i) S1x1024x2048.size (k0_off11_inb i c6)) (S := Finset.univ) (f := _) (Finset.subset_univ _)) $$ Hw
    iintro Hw
    ihave Hsl := Hback $$ Hx
    rw [hfw.read m (by omega) (by omega) (k0_off8 i) (by rw [k0_off8_eq, hit]) _ _ (k0_off11 i) (by rw [off11_eq i hp, hit]) _]
    iapply (wp_result c a4 X (fun v => k0_pay2 (k0_pay3 (xs m c (t - 1)) (wb m c (t - 1))) v) fa (k0_off14 i) _) $$ [Ha H4]
    · isplitl [Ha]; · iexact Ha
      iexact H4
    iintro ⟨Ha, H4⟩
    rw [hfa.read m (by omega) (by omega) (k0_off14 i) (by rw [off14_eq i hp, hit]) _, outV_eq m c t (by omega) (by omega)]
    rw [wp_ret]
    imodintro
    iapply Hk
    isplitr [HO H3 H4]
    · isplitr; · iexists K; iexact HI
      isplitr; · iexact Hlev
      isplitl [Ht Hw Ha]
      · isplitl [Ht]; · iexact Ht
        isplitl [Hw]
        · iexists _
          isplitr
          swap
          · iexact Hw
          · ipureintro
            exact WbOk.step m (k0_off8 i) (by rw [k0_off8_eq, hit]) _ _ rfl
        · iexists _
          isplitr
          swap
          · iexact Ha
          · ipureintro
            exact hfa.keep m (by omega)
      isplitl [Hsl]; · iexact Hsl
      iexact Hrest
    · isplitl [HO]; · iexact HO
      isplitl [H3]; · iexact H3
      iexact H4

end Cert.KernelIdeal.Fused

end
-- ==== Proof.BodyEnds.lean ====
/-
  The kernel's body at its last grid point and at its first: the closing barrier; the barrier and the transfers' starts.
-/
module

public import proofs.«01_k».proof.Proof.Body

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

set_option maxHeartbeats 3200000 in
/-- The last grid point: the last product, stored as a block of the result; the three transfers' departures awaited; the
    closing barrier. -/
theorem body_last (c : Dev nD) (i : grid0.Coords) (t : ℕ) (hit : (i 0).val = t) (ht : t = 16) (a3) (h3) (a4) (h4) (X) (Q : PUnit → sProp 𝕄) :
    iprop(stMid m c t ∗ (∃ W, owes (c : Thread nD τ) (Ofin c) W) ∗ owns (c : Thread nD τ) a4 fullShare X
        ∗ (stLast m c ∗ (∃ W, owes (c : Thread nD τ) 0 W) ∗ owns (c : Thread nD τ) a4 fullShare (outV m c (t - 13)) -∗ Q ⟨⟩))
      ⊢ wp frame (wpE (defs₀ (F := F)) 𝒱₀ (c : Thread nD τ) none) Set.univ (bodyAt i a3 h3 a4 h4) Q := by
  have c1 : ¬ k0_cond1 i = 1#1 := fun h => by have := (cond1_iff i).mp h; omega
  have c2 : ¬ k0_cond2 i = 1#1 := fun h => by have := (cond2_iff i).mp h; omega
  have c3 : ¬ k0_cond3 i = 1#1 := fun h => by have := (cond3_iff i).mp h; omega
  have c4 : ¬ k0_cond4 i = 1#1 := fun h => by have := (cond4_iff i).mp h; omega
  have c5 : ¬ k0_cond5 i = 1#1 := fun h => by have := (cond5_iff i).mp h; omega
  have c6 : k0_cond6 i = 1#1 := (cond6_iff i).mpr (by omega)
  have hp : 0 < (i 0).val := by omega
  have c7 : ¬ k0_cond7 i = 1#1 := fun h => by have := (cond7_iff i hp).mp h; omega
  have c8 : ¬ k0_cond8 i = 1#1 := fun h => by have := (cond8_iff i hp).mp h; omega
  have c9 : k0_cond9 i = 1#1 := (cond9_iff i hp).mpr (by omega)
  have c10 : k0_cond10 i = 1#1 := (cond10_iff i).mpr (by omega)
  unfold bodyAt
  simp only [cc0_body_eq_skeleton]
  unfold cc0_body_skel
  simp only [↓dif_neg c1, ↓dif_neg c2, ↓dif_neg c3, ↓dif_neg c4, ↓dif_neg c5, ↓dif_pos c6, ↓dif_pos c9, ↓dif_pos c10]
  simp only [k0_part3_eq_skeleton, k0_part4_eq_skeleton]
  unfold k0_part3_skel k0_part4_skel
  simp only [↓dif_neg c7, ↓dif_neg c8]
  simp only [smemLoad, smemLoadElt, semSignalWord, semWaitWord, Prog.lift, Prog.bind_op, Prog.bind_ret, Prog.pure_eq_ret, wp_deviceId]
  unfold stMid scr sends finMine finNews
  iintro ⟨⟨⟨%K, #HI⟩, #Hlev, ⟨Ht, ⟨%fw, %hfw, Hw⟩, ⟨%fa, %hfa, Ha⟩⟩, Hsl, ⟨Hd1, Hd2, Hd3⟩, ⟨Hcf, Hatf, Htok1, Htok2, Htok3⟩, ⟨Hnews1, Hnews2, Hnews3⟩, Hspent⟩, HO, H4, Hk⟩
  ihave Hsl := (Entails.of_eq (slots_keep m c t (by omega) (by omega) (by omega))) $$ Hsl
  ihave Hb := (slots_borrow m c t (by omega) (by omega)) $$ Hsl
  icases Hb with ⟨Hx, Hback⟩
  iapply (wp_load_rect 𝒱₀ (c : Thread nD τ) none Set.univ (m := (Memref.whole main_v8 : Memref sig .tc .smem S4 .i32)) (r := Rect.unit (s := S4) (k0_off9 i) S1.size (k0_off9_inb i c6)) (S := Finset.univ) (f := tab c) (Finset.subset_univ _)) $$ Ht
  iintro Ht
  have hw := word_eq (F := F) c i hp (k0_off9_inb i c6) (Shape.Idx.first (numel1_S1.symm ▸ Nat.one_pos))
  generalize ((Memref.whole main_v8 : Memref sig .tc .smem S4 .i32).access (Rect.unit (s := S4) (k0_off9 i) S1.size (k0_off9_inb i c6))).read (Elt F) (tab c) (Shape.Idx.first (numel1_S1.symm ▸ Nat.one_pos)) = v at hw ⊢
  rw [hit] at hw
  rw [wp_assume_of 𝒱₀ (c : Thread nD τ) none Set.univ (chk1 i v (src c (t - 1)) hw)]
  iapply (wp_plane m c (t - 1) _ ((off10_eq v).trans (by rw [hw]))) $$ Hx
  iintro Hx
  iapply (wp_load_rect 𝒱₀ (c : Thread nD τ) none Set.univ (m := wbM) (r := Rect.unit (s := S2x1024x2048) (k0_off11 i) S1x1024x2048.size (k0_off11_inb i c6)) (S := Finset.univ) (f := _) (Finset.subset_univ _)) $$ Hw
  iintro Hw
  ihave Hsl := Hback $$ Hx
  rw [hfw.read' m (by omega) (by omega) (k0_off11 i) (by rw [off11_eq i hp, hit]) _]
  iapply (wp_result c a4 X (fun v => k0_pay2 (k0_pay3 (xs m c (t - 1)) (wb m c (t - 1))) v) fa (k0_off14 i) _) $$ [Ha H4]
  · isplitl [Ha]; · iexact Ha
    iexact H4
  iintro ⟨Ha, H4⟩
  rw [hfa.read m (by omega) (by omega) (k0_off14 i) (by rw [off14_eq i hp, hit]) _, outV_eq m c t (by omega) (by omega)]
  icases Hd1 with ⟨Hc, Hat⟩
  icases HO with ⟨%W1, HO⟩
  iapply (wp_sent m K c 1 W1 _ sndS_1 ![0, 0] ![0, 0, 0] inb_S4096x1024_S1024x1024_0_0 inb_S4x1024x1024_S1x1024x1024_0_0_0) $$ [Hc Hat HO]
  · isplitr; · iexact HI
    isplitr; · iexact Hlev
    isplitl [Hc]; · iexact Hc
    isplitl [Hat]; · iexact Hat
    iexact HO
  iintro ⟨HO, Hq1, Hv1⟩
  ihave Hq1 := (Entails.of_eq (sndPay_of m c (k := 1) (by decide))) $$ Hq1
  icases Hd2 with ⟨Hc, Hat⟩
  icases HO with ⟨%W2, HO⟩
  iapply (wp_sent m K c 2 W2 _ sndS_2 ![0, 0] ![0, 0, 0] inb_S4096x1024_S1024x1024_0_0 inb_S4x1024x1024_S1x1024x1024_0_0_0) $$ [Hc Hat HO]
  · isplitr; · iexact HI
    isplitr; · iexact Hlev
    isplitl [Hc]; · iexact Hc
    isplitl [Hat]; · iexact Hat
    iexact HO
  iintro ⟨HO, Hq2, Hv2⟩
  ihave Hq2 := (Entails.of_eq (sndPay_of m c (k := 2) (by decide))) $$ Hq2
  icases Hd3 with ⟨Hc, Hat⟩
  icases HO with ⟨%W3, HO⟩
  iapply (wp_sent m K c 3 W3 _ sndS_3 ![0, 0] ![0, 0, 0] inb_S4096x1024_S1024x1024_0_0 inb_S4x1024x1024_S1x1024x1024_0_0_0) $$ [Hc Hat HO]
  · isplitr; · iexact HI
    isplitr; · iexact Hlev
    isplitl [Hc]; · iexact Hc
    isplitl [Hat]; · iexact Hat
    iexact HO
  iintro ⟨HO, Hq3, Hv3⟩
  ihave Hq3 := (Entails.of_eq (sndPay_of m c (k := 3) (by decide))) $$ Hq3
  icases HO with ⟨%W4, HO⟩
  unfold Ofin
  ihave #Hi1 := (inv_fin m K (pl c 1)) $$ HI
  iapply (wp_tell m (K (finCell (pl c 1))) c _ 1 (by decide) (Fin.ext (k0_dev7_eq c)) finS ((0 + tallyAt (finCell (pl c 3)) () 1) + tallyAt (finCell (pl c 2)) () 1) _) $$ [HO Htok1 Hnews1]
  · isplitr; · iexact Hi1
    isplitl [HO]; · iexact HO
    isplitl [Htok1]; · iexact Htok1
    isplitr
    · rw [payload_fin]; iempintro
    iexact Hnews1
  iintro HO
  ihave #Hi2 := (inv_fin m K (pl c 2)) $$ HI
  iapply (wp_tell m (K (finCell (pl c 2))) c _ 2 (by decide) (Fin.ext (k0_dev8_eq c)) finS (0 + tallyAt (finCell (pl c 3)) () 1) _) $$ [HO Htok2 Hnews2]
  · isplitr; · iexact Hi2
    isplitl [HO]; · iexact HO
    isplitl [Htok2]; · iexact Htok2
    isplitr
    · rw [payload_fin]; iempintro
    iexact Hnews2
  iintro HO
  ihave #Hi3 := (inv_fin m K (pl c 3)) $$ HI
  iapply (wp_tell m (K (finCell (pl c 3))) c _ 3 (by decide) (Fin.ext (k0_dev9_eq c)) finS 0 _) $$ [HO Htok3 Hnews3]
  · isplitr; · iexact Hi3
    isplitl [HO]; · iexact HO
    isplitl [Htok3]; · iexact Htok3
    isplitr
    · rw [payload_fin]; iempintro
    iexact Hnews3
  iintro HO
  iapply (wp_fin m K c _) $$ [Hcf Hatf HO]
  · isplitr; · iexact HI
    isplitl [Hcf]; · iexact Hcf
    isplitl [Hatf]; · iexact Hatf
    iexact HO
  iintro ⟨HO, Hvf⟩
  rw [wp_ret]
  imodintro
  iapply Hk
  isplitr [HO H4]
  · unfold stLast slotsSt spent
    rw [recvSt_gt m c 1 (by omega), recvSt_gt m c 3 (by omega), recvSt_gt m c 2 (by omega)]
    icases Hsl with ⟨Hp0, ⟨Hp1, Hr1⟩, ⟨Hp3, Hr3⟩, ⟨Hp2, Hr2⟩⟩
    icases Hspent with ⟨Hq0, Hvb, Hv0, Hr0⟩
    isplitl [Ht]; · iexact Ht
    isplitl [Hw]; · iexists _; iexact Hw
    isplitl [Ha]; · iexists _; iexact Ha
    isplitl [Hp0 Hp1 Hp2 Hp3]
    · isplitl [Hp0]; · iexact Hp0
      isplitl [Hp3]; · iexact Hp3
      isplitl [Hp2]; · iexact Hp2
      iexact Hp1
    isplitl [Hq0 Hq1 Hq2 Hq3]
    · isplitl [Hq0]; · iexact Hq0
      isplitl [Hq1]; · iexact Hq1
      isplitl [Hq2]; · iexact Hq2
      iexact Hq3
    isplitl [Hvb]; · iexact Hvb
    isplitl [Hvf]; · iexact Hvf
    isplitl [Hv0]; · iexact Hv0
    isplitl [Hv1]; · iexact Hv1
    isplitl [Hv2]; · iexact Hv2
    isplitl [Hv3]; · iexact Hv3
    isplitl [Hr0]; · iexact Hr0
    isplitl [Hr1]; · iexact Hr1
    isplitl [Hr2]; · iexact Hr2
    iexact Hr3
  · isplitl [HO]; · iexact HO
    iexact H4

/-! ## The first grid point -/

theorem off3_1 (c : Dev nD) : k0_off3 c 1#32 = ![1024 * (pl c 1).val, 0] := (k0_off3_eq c 0).trans (by revert c; decide)
theorem off3_2 (c : Dev nD) : k0_off3 c 2#32 = ![1024 * (pl c 2).val, 0] := (k0_off3_eq c 1).trans (by revert c; decide)
theorem off3_3 (c : Dev nD) : k0_off3 c 3#32 = ![1024 * (pl c 3).val, 0] := (k0_off3_eq c 2).trans (by revert c; decide)
theorem off4_own (c : Dev nD) : k0_off4 c = ![1024 * (pl c 0).val, 0] := by rw [k0_off4_eq, pl_zero]
theorem off2_own (c : Dev nD) : k0_off2 c = ![(pl c 0).val, 0, 0] := by rw [k0_off2_eq, pl_zero]

omit [FloatOps F] in
/-- The slot lent to device `pl c k`, with the news for it, is what unit `k` on its barrier cell is to hand over. -/
theorem bar_pay (c : Dev nD) (k k' : Fin 4) (h : -k = k') :
    iprop((∃ f, slotPts c (pl c k) f) ∗ reached ER (rcvCell c k') 0 ∗ reached ER (finCell c) 0) ⊢ ((Rd (F := F) m).payload (barCell (pl c k)) 0 k : sProp 𝕄) := by
  subst h
  rw [payload_bar]; unfold barPay; rw [pl_neg]
omit [FloatOps F] in
theorem barPay_eq (c : Dev nD) (k k' : Fin 4) (h : -k = k') :
    (barPay c k : sProp 𝕄) = iprop((∃ f, slotPts (pl c k') c f) ∗ reached ER (rcvCell (pl c k') k') 0 ∗ reached ER (finCell (pl c k')) 0) := by
  subst h; rfl

set_option maxHeartbeats 3200000 in
/-- The first grid point: the barrier; the three transfers and the copy of the device's own rows started; that copy awaited;
    the cast. -/
theorem body_first (c : Dev nD) (i : grid0.Coords) (hit : (i 0).val = 0) (a3) (h3) (a4) (h4) (Q : PUnit → sProp 𝕄) :
    iprop(stFirst m c ∗ (∃ W, owes (c : Thread nD τ) (O₀ c) W) ∗ owns (c : Thread nD τ) a3 fullShare (wBlk m c 0)
        ∗ (stMid m c 1 ∗ (∃ W, owes (c : Thread nD τ) (Ofin c) W) ∗ owns (c : Thread nD τ) a3 fullShare (wBlk m c 0) -∗ Q ⟨⟩))
      ⊢ wp frame (wpE (defs₀ (F := F)) 𝒱₀ (c : Thread nD τ) none) Set.univ (bodyAt i a3 h3 a4 h4) Q := by
  have c1 : k0_cond1 i = 1#1 := (cond1_iff i).mpr (by omega)
  have c2 : ¬ k0_cond2 i = 1#1 := fun h => by have := (cond2_iff i).mp h; omega
  have c3 : ¬ k0_cond3 i = 1#1 := fun h => by have := (cond3_iff i).mp h; omega
  have c4 : ¬ k0_cond4 i = 1#1 := fun h => by have := (cond4_iff i).mp h; omega
  have c5 : k0_cond5 i = 1#1 := (cond5_iff i).mpr (by omega)
  have c6 : ¬ k0_cond6 i = 1#1 := fun h => by have := (cond6_iff i).mp h; omega
  have c10 : ¬ k0_cond10 i = 1#1 := fun h => by have := (cond10_iff i).mp h; omega
  unfold bodyAt
  simp only [cc0_body_eq_skeleton]
  unfold cc0_body_skel
  simp only [↓dif_pos c1, ↓dif_neg c2, ↓dif_neg c3, ↓dif_neg c4, ↓dif_pos c5, ↓dif_neg c6, ↓dif_neg c10]
  simp only [k0_part1_eq_skeleton, k0_part2_eq_skeleton]
  unfold k0_part1_skel k0_part2_skel
  simp only [smemLoad, smemLoadElt, semSignalWord, semWaitWord, Prog.lift, Prog.bind_op, Prog.bind_ret, Prog.pure_eq_ret, wp_deviceId]
  unfold stFirst scr finMine O₀
  iintro ⟨⟨⟨%K, #HI⟩, #Hlev, ⟨Ht, ⟨%fw, %hfw, Hw⟩, ⟨%fa, %hfa, Ha⟩⟩, ⟨⟨%fd0, Hp0⟩, Hp1, Hp2, Hp3⟩, ⟨Hq0, Hq1, Hq2, Hq3⟩, ⟨Hcb, Hcr1, Hcr2, Hcr3⟩,
    ⟨Hatb, Hats0, Hats1, Hats2, Hats3, Hatr1, Hatr2, Hatr3⟩,
    ⟨#Hrb1, #Hrb2, #Hrb3, #Hrs0, #Hrs1, #Hrs2, #Hrs3, #Hrr1, #Hrr2, #Hrr3, #Hrf⟩,
    ⟨Htok1, Htok2, Htok3⟩, ⟨Hts0, Hts1, Hts2, Hts3⟩, ⟨Htr1, Htr2, Htr3⟩, Hfin, Hr0⟩, ⟨%W, HO⟩, H3, Hk⟩
  ihave #Hi1 := (inv_bar m K (pl c 1)) $$ HI
  iapply (wp_tell m (K (barCell (pl c 1))) c _ 1 (by decide) (Fin.ext (k0_dev1_eq c)) barS (((Osnd c + tallyAt (barCell (pl c 3)) () 1) + tallyAt (barCell (pl c 2)) () 1)) _) $$ [HO Htok1 Hp1]
  · isplitr; · iexact Hi1
    isplitl [HO]; · iexact HO
    isplitl [Htok1]; · iexact Htok1
    isplitl [Hp1]
    · iapply (bar_pay m c 1 3 rfl)
      isplitl [Hp1]; · iexact Hp1
      isplitr; · iexact Hrr3
      iexact Hrf
    iexact Hrb1
  iintro HO
  ihave #Hi2 := (inv_bar m K (pl c 2)) $$ HI
  iapply (wp_tell m (K (barCell (pl c 2))) c _ 2 (by decide) (Fin.ext (k0_dev2_eq c)) barS (Osnd c + tallyAt (barCell (pl c 3)) () 1) _) $$ [HO Htok2 Hp2]
  · isplitr; · iexact Hi2
    isplitl [HO]; · iexact HO
    isplitl [Htok2]; · iexact Htok2
    isplitl [Hp2]
    · iapply (bar_pay m c 2 2 rfl)
      isplitl [Hp2]; · iexact Hp2
      isplitr; · iexact Hrr2
      iexact Hrf
    iexact Hrb2
  iintro HO
  ihave #Hi3 := (inv_bar m K (pl c 3)) $$ HI
  iapply (wp_tell m (K (barCell (pl c 3))) c _ 3 (by decide) (Fin.ext (k0_dev3_eq c)) barS (Osnd c) _) $$ [HO Htok3 Hp3]
  · isplitr; · iexact Hi3
    isplitl [HO]; · iexact HO
    isplitl [Htok3]; · iexact Htok3
    isplitl [Hp3]
    · iapply (bar_pay m c 3 1 rfl)
      isplitl [Hp3]; · iexact Hp3
      isplitr; · iexact Hrr1
      iexact Hrf
    iexact Hrb3
  iintro HO
  iapply (wp_bar m K c _) $$ [Hcb Hatb HO]
  · isplitr; · iexact HI
    isplitr; · iexact Hlev
    isplitl [Hcb]; · iexact Hcb
    isplitl [Hatb]; · iexact Hatb
    iexact HO
  iintro ⟨⟨%W1, HO⟩, ⟨Hb1, Hb2, Hb3⟩, Hvb⟩
  ihave Hb1 := (Entails.of_eq (barPay_eq c 1 3 rfl)) $$ Hb1
  ihave Hb2 := (Entails.of_eq (barPay_eq c 2 2 rfl)) $$ Hb2
  ihave Hb3 := (Entails.of_eq (barPay_eq c 3 1 rfl)) $$ Hb3
  icases Hb1 with ⟨⟨%fd3, Hsl3⟩, #Hnr3, #Hnf3⟩
  icases Hb2 with ⟨⟨%fd2, Hsl2⟩, #Hnr2, #Hnf2⟩
  icases Hb3 with ⟨⟨%fd1, Hsl1⟩, #Hnr1, #Hnf1⟩
  unfold Osnd
  iapply (wp_send m K c _ (k := 1) (by decide) (Fin.ext (k0_dev4_eq c)) ((Ofin c + tallyAt (rcvCell (pl c 3) 3) () A) + tallyAt (rcvCell (pl c 2) 2) () A) _ _ _ sndS_1 rcvS_1 (k0_off3 c 1#32) (k0_off2 c)
      (k0_off3_inb i c c1 0) (k0_off2_inb i c c1) (off3_1 c) (k0_off2_eq c) fd1) $$ [Hq1 Hsl1 HO Hts1 Htr1]
  · isplitr; · iexact HI
    isplitl [Hq1]; · iexact Hq1
    isplitl [Hsl1]; · iexact Hsl1
    isplitl [HO]; · iexact HO
    isplitl [Hts1]; · iexact Hts1
    isplitr; · iexact Hrs1
    isplitl [Htr1]; · iexact Htr1
    iexact Hnr1
  iintro ⟨Hcs1, HO⟩
  iapply (wp_send m K c _ (k := 2) (by decide) (Fin.ext (k0_dev5_eq c)) (Ofin c + tallyAt (rcvCell (pl c 3) 3) () A) _ _ _ sndS_2 rcvS_2 (k0_off3 c 2#32) (k0_off2 c)
      (k0_off3_inb i c c1 1) (k0_off2_inb i c c1) (off3_2 c) (k0_off2_eq c) fd2) $$ [Hq2 Hsl2 HO Hts2 Htr2]
  · isplitr; · iexact HI
    isplitl [Hq2]; · iexact Hq2
    isplitl [Hsl2]; · iexact Hsl2
    isplitl [HO]; · iexact HO
    isplitl [Hts2]; · iexact Hts2
    isplitr; · iexact Hrs2
    isplitl [Htr2]; · iexact Htr2
    iexact Hnr2
  iintro ⟨Hcs2, HO⟩
  iapply (wp_send m K c _ (k := 3) (by decide) (Fin.ext (k0_dev6_eq c)) (Ofin c) _ _ _ sndS_3 rcvS_3 (k0_off3 c 3#32) (k0_off2 c)
      (k0_off3_inb i c c1 2) (k0_off2_inb i c c1) (off3_3 c) (k0_off2_eq c) fd3) $$ [Hq3 Hsl3 HO Hts3 Htr3]
  · isplitr; · iexact HI
    isplitl [Hq3]; · iexact Hq3
    isplitl [Hsl3]; · iexact Hsl3
    isplitl [HO]; · iexact HO
    isplitl [Hts3]; · iexact Hts3
    isplitr; · iexact Hrs3
    isplitl [Htr3]; · iexact Htr3
    iexact Hnr3
  iintro ⟨Hcs3, HO⟩
  iapply (wp_own m K c _ sndS_0 (k0_off4 c) (k0_off2 c) (k0_off4_inb i c c1) (k0_off2_inb i c c1) (off4_own c) (off2_own c) fd0) $$ [Hq0 Hp0 Hts0]
  · isplitr; · iexact HI
    isplitl [Hq0]; · iexact Hq0
    isplitl [Hp0]; · iexact Hp0
    isplitl [Hts0]; · iexact Hts0
    iexact Hrs0
  iintro Hcs0
  iapply (wp_sent_own m K c 0 _ _ sndS_0 (k0_off4 c) (k0_off2 c) (k0_off4_inb i c c1) (k0_off2_inb i c c1)) $$ [Hcs0 Hats0 HO]
  · isplitr; · iexact HI
    isplitr; · iexact Hlev
    isplitl [Hcs0]; · iexact Hcs0
    isplitl [Hats0]; · iexact Hats0
    iexact HO
  iintro ⟨HO, Hown, Hv0⟩
  ihave Hown := (Entails.of_eq (sndPay_zero m c)) $$ Hown
  icases Hown with ⟨Hp0, Hq0⟩
  iapply (wp_cast c a3 (wBlk m c 0) fw (k0_off8 i) _) $$ [H3 Hw]
  · isplitl [H3]; · iexact H3
    iexact Hw
  iintro ⟨H3, Hw⟩
  rw [wp_ret]
  imodintro
  iapply Hk
  isplitr [HO H3]
  · unfold stMid scr sends finMine finNews spent slotsSt
    rw [recvSt_le m c 1 (by omega), recvSt_le m c 3 (by omega), recvSt_le m c 2 (by omega)]
    isplitr; · iexists K; iexact HI
    isplitr; · iexact Hlev
    isplitl [Ht Hw Ha]
    · isplitl [Ht]; · iexact Ht
      isplitl [Hw]
      · iexists _
        isplitr
        swap
        · iexact Hw
        · ipureintro
          exact WbOk.step m (t := 0) (k0_off8 i) (by rw [k0_off8_eq, hit]) _ _ rfl
      · iexists _
        isplitr
        swap
        · iexact Ha
        · ipureintro
          exact accOk_one m c _
    isplitl [Hp0 Hcr1 Hcr2 Hcr3 Hatr1 Hatr2 Hatr3]
    · isplitl [Hp0]; · iexact Hp0
      isplitl [Hcr1 Hatr1]
      · isplitl [Hcr1]; · iexact Hcr1
        iexact Hatr1
      isplitl [Hcr3 Hatr3]
      · isplitl [Hcr3]; · iexact Hcr3
        iexact Hatr3
      isplitl [Hcr2]; · iexact Hcr2
      iexact Hatr2
    isplitl [Hcs1 Hcs2 Hcs3 Hats1 Hats2 Hats3]
    · isplitl [Hcs1 Hats1]
      · isplitl [Hcs1]; · iexact Hcs1
        iexact Hats1
      isplitl [Hcs2 Hats2]
      · isplitl [Hcs2]; · iexact Hcs2
        iexact Hats2
      isplitl [Hcs3]; · iexact Hcs3
      iexact Hats3
    isplitl [Hfin]; · iexact Hfin
    isplitr
    · isplitr; · iexact Hnf1
      isplitr; · iexact Hnf2
      iexact Hnf3
    isplitl [Hq0]; · iexact Hq0
    isplitl [Hvb]; · iexact Hvb
    isplitl [Hv0]; · iexact Hv0
    iexact Hr0
  · isplitl [HO]; · iexact HO
    iexact H3

end Cert.KernelIdeal.Fused

end
-- ==== Proof.Points.lean ====
/-
  The pipeline's proof data on each device, and the body at every grid point: the staging buffer of `w` holds the block the
  product consumes, the staging buffer of the result is written at grid points 13 to 16 only.
-/
module

public import proofs.«01_k».proof.Proof.BodyEnds

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Seg HostSeg BodyObligation)

variable {F : FTy → Type} [FloatOps F]

local notation "𝕄" => MT nD τ sig Unit (Elt F) ℕ UU ℕ

variable (m : (ℓ : Loc nD τ sig) → Buf (Elt F) ℓ)

/-- What device `c` holds before grid point `t`. -/
def stAt (c : Dev nD) (t : ℕ) : sProp 𝕄 := if t = 0 then stFirst m c else if t ≤ 16 then stMid m c t else stLast m c
/-- What it then still owes. -/
def owedAt (c : Dev nD) (t : ℕ) : CellTallies nD τ sig Unit := if t = 0 then O₀ c else if t ≤ 16 then Ofin c else 0

/-- The proof data: the arrays as the host left them, the staging buffers at the consumed block of `w` and the block of the result. -/
def dats (_ : Fin 1) (c : Dev nD) : Dat τ (Elt F) Unit ℕ UU ℕ (cfg0 (adm (F := F) c)) c where
  A w := V1 m c (Pipeline.arrRef spec0 w)
  after w t := match w with
    | ⟨0, _⟩ => wBlk m c (min t.val 15)
    | ⟨1, _⟩ => outV m c (t.val - 13)
  Φ t := stAt m c t.val
  q _ := fullShare
  owed t := owedAt c t.val

theorem out_flush (c : Dev nD) (t : Fin grid0.N) : ((cfg0 (adm (F := F) c)).win 1).flush t = decide (13 ≤ t.val) := by
  have h : ∀ t, Pipeline.Window.flushOf grid0 true cc0_transform_2 t = decide (13 ≤ t.val) := by decide +kernel
  exact h t

theorem out_idle (t : Fin grid0.N) : idle0 1 (grid0.coords t) = decide (t.val < 13) := by
  have h : ∀ t, idle0 1 (grid0.coords t) = decide (t.val < 13) := by decide +kernel
  exact h t

theorem w_index (c : Dev nD) (t : Fin grid0.N) : ((cfg0 (adm (F := F) c)).win 0).index t = ![(src c (min t.val 15)).val, min t.val 15 % 4] := by
  have h := ix1_eq (F := F) c (grid0.coords t)
  rw [coords_val t] at h
  exact h

/-- The block of `w` a fetch brings. -/
theorem blockOf_0 (c : Dev nD) (t : Fin grid0.N) : (dats m 0 c).blockOf 0 t = wBlk m c (min t.val 15) := by
  funext j
  show V1 m c main_arg1 ((((cfg0 (adm (F := F) c)).win 0).rect t).emb j) = _
  rw [V1_of m c main_arg1 (by decide)]
  unfold wBlk
  congr 1
  funext a
  apply Fin.ext
  rw [Pipeline.Window.rect_emb_val ((cfg0 (adm (F := F) c)).win 0) t j _ rfl, w_index]
  match a with
  | ⟨0, _⟩ => exact Nat.add_right_cancel_iff.mpr (Nat.mul_comm _ 1024)
  | ⟨1, _⟩ => exact Nat.add_right_cancel_iff.mpr (Nat.mul_comm _ 2048)

/-- The staging buffer of `w` holds the block whenever the body runs. -/
theorem before_0 (c : Dev nD) (t : Fin grid0.N) (d) : (dats m 0 c).before 0 t d = wBlk m c (min t.val 15) := by
  rw [(dats m 0 c).before_in_eq_fetched 0 rfl (fun _ => rfl) (fun _ _ _ => rfl) (fun t => (blockOf_0 m c t).symm) t d]
  exact blockOf_0 m c t

/-! ## The body at every grid point -/

theorem owesAt_intro (c : Dev nD) (t : Fin (grid0.N + 1)) (O : CellTallies nD τ sig Unit) (h : owedAt c t.val = O) :
    iprop(∃ W, owes (c : Thread nD τ) O W) ⊢ ((dats m 0 c).owesAt () t : sProp 𝕄) := by
  subst h
  unfold Dat.owesAt Pipeline.owesWithin Dat.bound
  iintro ⟨%W, HO⟩
  iexists W
  isplitr
  · ipureintro; exact fun _ _ => Or.inl trivial
  iexact HO

theorem owesAt_elim (c : Dev nD) (t : Fin (grid0.N + 1)) (O : CellTallies nD τ sig Unit) (h : owedAt c t.val = O) :
    ((dats m 0 c).owesAt () t : sProp 𝕄) ⊢ iprop(∃ W, owes (c : Thread nD τ) O W) := by
  subst h
  unfold Dat.owesAt Pipeline.owesWithin
  iintro ⟨%W, -, HO⟩
  iexists W
  iexact HO

/-- The staging memrefs the body is called with. -/
abbrev stW (c : Dev nD) (t : Fin grid0.N) : Memref sig .tc .vmem S1024x2048 .bf16 := spec0_0.stage ((cfg0 (adm (F := F) c)).slots t 0)
abbrev stO (c : Dev nD) (t : Fin grid0.N) : Memref sig .tc .vmem S1024x2048 .bf16 := spec0_1.stage ((cfg0 (adm (F := F) c)).slots t 1)

/-- What the result's staging buffer is left at. -/
def leftO (c : Dev nD) (t : Fin grid0.N) : sProp 𝕄 :=
  if t.val < 13 then iprop(∃ d, owns (c : Thread nD τ) (stO (F := F) c t) fullShare ((dats m 0 c).before 1 t d))
  else owns (c : Thread nD τ) (stO (F := F) c t) fullShare (outV m c (t.val - 13))

/-- The body at a grid point, between the states before and after it. -/
theorem body_point (c : Dev nD) (t : Fin grid0.N) :
    iprop(stAt m c t.val ∗ (∃ W, owes (c : Thread nD τ) (owedAt c t.val) W)
        ∗ owns (c : Thread nD τ) (stW (F := F) c t) fullShare (wBlk m c (min t.val 15))
        ∗ (∃ d, owns (c : Thread nD τ) (stO (F := F) c t) fullShare ((dats m 0 c).before 1 t d)))
      ⊢ wp frame (wpE (defs₀ (F := F)) 𝒱₀ (c : Thread nD τ) none) Set.univ
          (bodyAt (grid0.coords t) (stW (F := F) c t) (hstage0_0 (((cfg0 (adm (F := F) c)).slots t 0).cast nbuf0_0))
            (stO (F := F) c t) (hstage0_1 (((cfg0 (adm (F := F) c)).slots t 1).cast nbuf0_1))) fun _ =>
          iprop(stAt m c (t.val + 1) ∗ (∃ W, owes (c : Thread nD τ) (owedAt c (t.val + 1)) W)
            ∗ owns (c : Thread nD τ) (stW (F := F) c t) fullShare (wBlk m c (min t.val 15)) ∗ leftO m c t) := by
  have hN : t.val < 17 := t.isLt
  have hc := coords_val t
  unfold stAt owedAt leftO
  by_cases h0 : t.val = 0
  · rw [if_pos h0, if_pos h0, if_neg (show ¬ t.val + 1 = 0 by omega), if_pos (show t.val + 1 ≤ 16 by omega), if_neg (show ¬ t.val + 1 = 0 by omega),
      if_pos (show t.val + 1 ≤ 16 by omega), if_pos (by omega), show min t.val 15 = 0 by omega, show t.val + 1 = 1 by omega]
    iintro ⟨HΦ, HO, Hw, Hd⟩
    iapply (body_first m c (grid0.coords t) (hc.trans h0) _ _ _ _ _)
    isplitl [HΦ]; · iexact HΦ
    isplitl [HO]; · iexact HO
    isplitl [Hw]; · iexact Hw
    iintro ⟨HΦ, HO, Hw⟩
    isplitl [HΦ]; · iexact HΦ
    isplitl [HO]; · iexact HO
    isplitl [Hw]; · iexact Hw
    iexact Hd
  rw [if_neg h0, if_pos (show t.val ≤ 16 by omega), if_neg (show ¬ t.val + 1 = 0 by omega), if_neg h0, if_pos (show t.val ≤ 16 by omega), if_neg (show ¬ t.val + 1 = 0 by omega)]
  by_cases h4 : t.val ≤ 4
  · rw [if_pos (by omega), if_pos (by omega), if_pos (by omega), show min t.val 15 = t.val by omega]
    iintro ⟨HΦ, HO, Hw, Hd⟩
    iapply (body_keep m c (grid0.coords t) t.val hc (by omega) h4 _ _ _ _ _)
    isplitl [HΦ]; · iexact HΦ
    isplitl [Hw]; · iexact Hw
    iintro ⟨HΦ, Hw⟩
    isplitl [HΦ]; · iexact HΦ
    isplitl [HO]; · iexact HO
    isplitl [Hw]; · iexact Hw
    iexact Hd
  by_cases h12 : t.val ≤ 12
  · rw [if_pos (by omega), if_pos (by omega), if_pos (by omega), show min t.val 15 = t.val by omega]
    iintro ⟨HΦ, HO, Hw, Hd⟩
    iapply (body_add m c (grid0.coords t) t.val hc (by omega) h12 _ _ _ _ _)
    isplitl [HΦ]; · iexact HΦ
    isplitl [HO]; · iexact HO
    isplitl [Hw]; · iexact Hw
    iintro ⟨HΦ, HO, Hw⟩
    isplitl [HΦ]; · iexact HΦ
    isplitl [HO]; · iexact HO
    isplitl [Hw]; · iexact Hw
    iexact Hd
  by_cases h15 : t.val ≤ 15
  · rw [if_pos (by omega), if_pos (by omega), if_neg (by omega), show min t.val 15 = t.val by omega]
    iintro ⟨HΦ, HO, Hw, ⟨%d, Hd⟩⟩
    iapply (body_out m c (grid0.coords t) t.val hc (by omega) h15 _ _ _ _ _ _)
    isplitl [HΦ]; · iexact HΦ
    isplitl [HO]; · iexact HO
    isplitl [Hw]; · iexact Hw
    isplitl [Hd]; · iexact Hd
    iintro ⟨HΦ, HO, Hw, Hd⟩
    isplitl [HΦ]; · iexact HΦ
    isplitl [HO]; · iexact HO
    isplitl [Hw]; · iexact Hw
    iexact Hd
  rw [if_neg (by omega), if_neg (by omega), if_neg (by omega)]
  iintro ⟨HΦ, HO, Hw, ⟨%d, Hd⟩⟩
  iapply (body_last m c (grid0.coords t) t.val hc (by omega) _ _ _ _ _ _)
  isplitl [HΦ]; · iexact HΦ
  isplitl [HO]; · iexact HO
  isplitl [Hd]; · iexact Hd
  iintro ⟨HΦ, HO, Hd⟩
  isplitl [HΦ]; · iexact HΦ
  isplitl [HO]; · iexact HO
  isplitl [Hw]; · iexact Hw
  iexact Hd

/-- The body obligation of the pipeline. -/
theorem body_obligation (c : Dev nD) : BodyObligation (dats (F := F) m 0 c) defs₀ 𝒱₀ () Set.univ := fun t => by
  have hb := body_point m c t
  rw [bigSep_W0, bigSep_W0]
  dsimp only
  refine BIBase.Entails.trans ?_ (hb.trans (wp_mono _ _ _ fun _ => ?_))
  · iintro ⟨HΦ, HO, ⟨%d, Hw⟩, Hd⟩
    ihave Hw := (Entails.of_eq (congrArg (fun f => owns (c : Thread nD τ) (stW (F := F) c t) fullShare f) (before_0 m c t d))) $$ Hw
    ihave HO := (owesAt_elim m c t.castSucc (owedAt c t.val) rfl) $$ HO
    ihave HΦ := (show (dats m 0 c).Φ t.castSucc ⊢ stAt m c t.val from .rfl) $$ HΦ
    isplitl [HΦ]; · iexact HΦ
    isplitl [HO]; · iexact HO
    isplitl [Hw]; · iexact Hw
    iexact Hd
  · iintro ⟨HΦ, HO, Hw, Hd⟩
    ihave HO := (owesAt_intro m c t.succ (owedAt c (t.val + 1)) rfl) $$ HO
    ihave HΦ := (show stAt m c (t.val + 1) ⊢ (dats m 0 c).Φ t.succ from .rfl) $$ HΦ
    isplitl [HΦ]; · iexact HΦ
    isplitl [HO]; · iexact HO
    isplitl [Hw]; · iexact Hw
    irevert Hd
    refine wand_intro (emp_sep.1.trans ?_)
    have hi := out_idle t
    have hf := out_flush (F := F) c t
    unfold leftO
    by_cases h : t.val < 13
    · rw [if_pos h]
      rw [decide_eq_true h] at hi
      rw [decide_eq_false (by omega)] at hf
      split
      · split
        · exact BI.Entails.refl _
        · rename_i h2; exact absurd (hf.symm.trans h2) (by decide)
      · rename_i h2; exact absurd (hi.symm.trans h2) (by decide)
    · rw [if_neg h]
      rw [decide_eq_false h] at hi
      split
      · rename_i h2; exact absurd (hi.symm.trans h2) (by decide)
      · exact BI.Entails.refl _

end Cert.KernelIdeal.Fused

end
-- ==== Proof.Region.lean ====
/-
  The kernel's region of the program: what it is entered with, the scoped cells opened, and what it leaves.
-/
module

public import proofs.«01_k».proof.Proof.Points

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Seg HostSeg BodyObligation)

variable {F : FTy → Type} [FloatOps F]

local notation "𝕄" => MT nD τ sig Unit (Elt F) ℕ UU ℕ

variable (m : (ℓ : Loc nD τ sig) → Buf (Elt F) ℓ)

/-! ## The slots and the rows, together and apart -/

omit [FloatOps F] in
theorem around (c : Dev nD) (Φ : Dev nD → sProp 𝕄) :
    bigSep Finset.univ Φ = iprop(Φ (pl c 0) ∗ Φ (pl c 1) ∗ Φ (pl c 2) ∗ Φ (pl c 3)) :=
  bigSep_univ_eq_bigSepL [pl c 0, pl c 1, pl c 2, pl c 3] (by revert c; decide) (by revert c; decide) Φ

theorem mem_slot (s : Dev nD) (i : S4x1024x1024.Idx) : i ∈ (slotM s).view.set ↔ (i 0).val = s.val := by
  constructor
  · intro hi
    obtain ⟨x, -, rfl⟩ := Finset.mem_map.mp hi
    obtain ⟨a, b, rfl⟩ : ∃ a b, x = (ix2 a b : S1024x1024.Idx) := ⟨_, _, eq_ix2 x⟩
    rw [slot_emb]
  · intro h
    refine Finset.mem_map.mpr ⟨_, Finset.mem_univ _, (slot_emb s ⟨(i 1).val, (i 1).isLt⟩ ⟨(i 2).val, (i 2).isLt⟩).trans ?_⟩
    funext d
    match d with
    | ⟨0, _⟩ => exact Fin.ext h.symm
    | ⟨1, _⟩ => rfl
    | ⟨2, _⟩ => rfl

theorem mem_rows (d : Dev nD) (i : S4096x1024.Idx) : i ∈ (rowsM d).view.set ↔ (i 0).val / 1024 = d.val := by
  constructor
  · intro hi
    obtain ⟨x, -, rfl⟩ := Finset.mem_map.mp hi
    obtain ⟨a, b, rfl⟩ : ∃ a b, x = (ix2 a b : S1024x1024.Idx) := ⟨_, _, eq_ix2 x⟩
    rw [rows_emb]
    have h := a.isLt
    show (1024 * d.val + a.val) / 1024 = d.val
    omega
  · intro h
    refine Finset.mem_map.mpr ⟨_, Finset.mem_univ _, (rows_emb d ⟨(i 0).val % 1024, Nat.mod_lt _ (by decide)⟩ ⟨(i 1).val, (i 1).isLt⟩).trans ?_⟩
    funext a
    match a with
    | ⟨0, _⟩ => exact Fin.ext (by show 1024 * d.val + (i 0).val % 1024 = (i 0).val; omega)
    | ⟨1, _⟩ => rfl

omit [FloatOps F] in
/-- `xfull`, whole, is its four slots. -/
theorem slots_whole (c : Dev nD) (f : Buf (Elt F) ((c : Thread nD τ).loc cc0_scratch1)) :
    (((c : Thread nD τ).loc cc0_scratch1) ↦{fullShare} f : sProp 𝕄)
      = iprop(slotPts c (pl c 0) f ∗ slotPts c (pl c 1) f ∗ slotPts c (pl c 2) f ∗ slotPts c (pl c 3) f) := by
  rw [← around c (fun s => slotPts (F := F) c s f)]
  refine (congrArg (fun S => (((c : Thread nD τ).loc cc0_scratch1) ↦[S]{fullShare} f : sProp 𝕄)) (?_ : Finset.univ = _)).trans
    (pointsTo_biUnion (ℓ := (c : Thread nD τ).loc cc0_scratch1) (q := fullShare) (f := f) Finset.univ (fun s : Dev nD => (slotM s).view.set) ?_)
  · refine (Finset.eq_univ_of_forall fun (i : S4x1024x1024.Idx) => ?_).symm
    exact Finset.mem_biUnion.mpr ⟨(⟨(i 0).val, (i 0).isLt⟩ : Dev nD), Finset.mem_univ _, (mem_slot _ i).mpr rfl⟩
  · intro s _ s' _ hne
    refine Finset.disjoint_left.mpr fun i h h' => hne (Fin.ext ?_)
    exact ((mem_slot s i).mp h).symm.trans ((mem_slot s' i).mp h')

omit [FloatOps F] in
/-- The device's block of `x`, whole, is the rows of the four devices. -/
theorem rows_whole (c : Dev nD) :
    (((c : Thread nD τ).loc main_arg0) ↦{fullShare} m ((c : Thread nD τ).loc main_arg0) : sProp 𝕄)
      = iprop(rowsPts m c (pl c 0) ∗ rowsPts m c (pl c 1) ∗ rowsPts m c (pl c 2) ∗ rowsPts m c (pl c 3)) := by
  rw [← around c (fun d => rowsPts (F := F) m c d)]
  refine (congrArg (fun S => (((c : Thread nD τ).loc main_arg0) ↦[S]{fullShare} m ((c : Thread nD τ).loc main_arg0) : sProp 𝕄)) (?_ : Finset.univ = _)).trans
    (pointsTo_biUnion (ℓ := (c : Thread nD τ).loc main_arg0) (q := fullShare) (f := m ((c : Thread nD τ).loc main_arg0)) Finset.univ (fun d : Dev nD => (rowsM d).view.set) ?_)
  · refine (Finset.eq_univ_of_forall fun (i : S4096x1024.Idx) => ?_).symm
    have hi : (i 0).val < 4096 := (i 0).isLt
    exact Finset.mem_biUnion.mpr ⟨(⟨(i 0).val / 1024, by show (i 0).val / 1024 < 4; omega⟩ : Dev nD), Finset.mem_univ _, (mem_rows _ i).mpr rfl⟩
  · intro s _ s' _ hne
    refine Finset.disjoint_left.mpr fun i h h' => hne (Fin.ext ?_)
    exact ((mem_rows s i).mp h).symm.trans ((mem_rows s' i).mp h')

/-! ## What the region is entered with -/

/-- What the launch deals device `c`: the cells' invariants, the credit of what its peers will pay it, its position at the
    barrier, the right to open its scoped cells, and the tokens of the duties it pays. -/
def deal (c : Dev nD) : sProp 𝕄 :=
  iprop((∃ K, invs m K)
    ∗ (cred (tallyAt (barCell c) () 3) ∗ cred (tallyAt (rcvCell c 1) () A) ∗ cred (tallyAt (rcvCell c 2) () A) ∗ cred (tallyAt (rcvCell c 3) () A)
        ∗ cred (tallyAt (finCell c) () 3))
    ∗ atPos ER (barCell c) 0 ∅ 0
    ∗ (reached ER (barCell (pl c 1)) 0 ∗ reached ER (barCell (pl c 2)) 0 ∗ reached ER (barCell (pl c 3)) 0)
    ∗ (openTok ER (finCell c) ∗ openTok ER (sndCell c 0) ∗ openTok ER (sndCell c 1) ∗ openTok ER (sndCell c 2) ∗ openTok ER (sndCell c 3)
        ∗ openTok ER (rcvCell c 1) ∗ openTok ER (rcvCell c 2) ∗ openTok ER (rcvCell c 3))
    ∗ (dutyTok ER (barCell (pl c 1)) 0 1 ∗ dutyTok ER (barCell (pl c 2)) 0 2 ∗ dutyTok ER (barCell (pl c 3)) 0 3)
    ∗ (dutyTok ER (sndCell c 0) 0 0 ∗ dutyTok ER (sndCell c 1) 0 0 ∗ dutyTok ER (sndCell c 2) 0 0 ∗ dutyTok ER (sndCell c 3) 0 0)
    ∗ (dutyTok ER (rcvCell (pl c 1) 1) 0 0 ∗ dutyTok ER (rcvCell (pl c 2) 2) 0 0 ∗ dutyTok ER (rcvCell (pl c 3) 3) 0 0)
    ∗ (dutyTok ER (finCell (pl c 1)) 0 1 ∗ dutyTok ER (finCell (pl c 2)) 0 2 ∗ dutyTok ER (finCell (pl c 3)) 0 3))

/-- The same with the scoped cells open. -/
def opened (c : Dev nD) : sProp 𝕄 :=
  iprop((∃ K, invs m K)
    ∗ (cred (tallyAt (barCell c) () 3) ∗ cred (tallyAt (rcvCell c 1) () A) ∗ cred (tallyAt (rcvCell c 2) () A) ∗ cred (tallyAt (rcvCell c 3) () A))
    ∗ (atPos ER (barCell c) 0 ∅ 0 ∗ atPos ER (sndCell c 0) 0 ∅ 0 ∗ atPos ER (sndCell c 1) 0 ∅ 0 ∗ atPos ER (sndCell c 2) 0 ∅ 0 ∗ atPos ER (sndCell c 3) 0 ∅ 0
        ∗ atPos ER (rcvCell c 1) 0 ∅ 0 ∗ atPos ER (rcvCell c 2) 0 ∅ 0 ∗ atPos ER (rcvCell c 3) 0 ∅ 0)
    ∗ (reached ER (barCell (pl c 1)) 0 ∗ reached ER (barCell (pl c 2)) 0 ∗ reached ER (barCell (pl c 3)) 0
        ∗ reached ER (sndCell c 0) 0 ∗ reached ER (sndCell c 1) 0 ∗ reached ER (sndCell c 2) 0 ∗ reached ER (sndCell c 3) 0
        ∗ reached ER (rcvCell c 1) 0 ∗ reached ER (rcvCell c 2) 0 ∗ reached ER (rcvCell c 3) 0 ∗ reached ER (finCell c) 0)
    ∗ (dutyTok ER (barCell (pl c 1)) 0 1 ∗ dutyTok ER (barCell (pl c 2)) 0 2 ∗ dutyTok ER (barCell (pl c 3)) 0 3)
    ∗ (dutyTok ER (sndCell c 0) 0 0 ∗ dutyTok ER (sndCell c 1) 0 0 ∗ dutyTok ER (sndCell c 2) 0 0 ∗ dutyTok ER (sndCell c 3) 0 0)
    ∗ (dutyTok ER (rcvCell (pl c 1) 1) 0 0 ∗ dutyTok ER (rcvCell (pl c 2) 2) 0 0 ∗ dutyTok ER (rcvCell (pl c 3) 3) 0 0)
    ∗ finMine c ∗ semVal (rcvCell c 0) 0)

/-- The kernel's own scoped semaphores: the closing barrier, the sends, the receives. -/
def osem : Fin 9 → SemLoc sig
  | 0 => .reg finS
  | 1 => .dma (sndS 0) | 2 => .dma (sndS 1) | 3 => .dma (sndS 2) | 4 => .dma (sndS 3)
  | 5 => .dma (rcvS 0) | 6 => .dma (rcvS 1) | 7 => .dma (rcvS 2) | 8 => .dma (rcvS 3)

omit [FloatOps F] in
theorem own_eq (c : Dev nD) : (Pipeline.ownSems0 osem c : sProp 𝕄)
    = iprop(semVal (finCell c) 0 ∗ semVal (sndCell c 0) 0 ∗ semVal (sndCell c 1) 0 ∗ semVal (sndCell c 2) 0 ∗ semVal (sndCell c 3) 0
      ∗ semVal (rcvCell c 0) 0 ∗ semVal (rcvCell c 1) 0 ∗ semVal (rcvCell c 2) 0 ∗ semVal (rcvCell c 3) 0) :=
  Pipeline.ownSems0_eq_of_list c osem [0, 1, 2, 3, 4, 5, 6, 7, 8] (by decide) (by decide)

/-- A scoped cell is opened by its owner. -/
theorem open_at (K : GSem nD τ sig → ℕ) (x : CellIx) :
    iprop(invs m K ∗ openTok ER (cellAt x) ∗ semVal (cellAt x) 0) ⊢ |={Set.univ}=> iprop(atPos ER (cellAt x) 0 ∅ 0 ∗ reached ER (cellAt x) 0) := by
  iintro ⟨#HI, Ho, Hv⟩
  ihave #Hi := (invs_at m K x) $$ HI
  iapply (Rounds.cell_open ER (Rd m) (g := cellAt x) (Set.mem_univ (K (cellAt x))))
  isplitr; · iexact Hi
  isplitl [Ho]; · iexact Ho
  iexact Hv

/-- On entry the device opens its eight scoped cells. -/
theorem open_all (c : Dev nD) : iprop(deal m c ∗ Pipeline.ownSems0 osem c) ⊢ |={Set.univ}=> opened m c := by
  rw [own_eq]
  unfold deal opened finMine
  iintro ⟨⟨⟨%K, #HI⟩, ⟨Hc0, Hc1, Hc2, Hc3, Hcf⟩, Hab, ⟨#Hb1, #Hb2, #Hb3⟩, ⟨Hof, Ho0, Ho1, Ho2, Ho3, Hr1, Hr2, Hr3⟩, Hbt, Hst, Hrt, ⟨Hf1, Hf2, Hf3⟩⟩, Hvf, Hv0, Hv1, Hv2, Hv3, Hw0, Hw1, Hw2, Hw3⟩
  imod (open_at m K (c, 1)) $$ [Hof Hvf] with ⟨HaF, #HnF⟩
  · isplitr; · iexact HI
    isplitl [Hof]; · iexact Hof
    iexact Hvf
  imod (open_at m K (c, 2)) $$ [Ho0 Hv0] with ⟨HaS0, #HnS0⟩
  · isplitr; · iexact HI
    isplitl [Ho0]; · iexact Ho0
    iexact Hv0
  imod (open_at m K (c, 3)) $$ [Ho1 Hv1] with ⟨HaS1, #HnS1⟩
  · isplitr; · iexact HI
    isplitl [Ho1]; · iexact Ho1
    iexact Hv1
  imod (open_at m K (c, 4)) $$ [Ho2 Hv2] with ⟨HaS2, #HnS2⟩
  · isplitr; · iexact HI
    isplitl [Ho2]; · iexact Ho2
    iexact Hv2
  imod (open_at m K (c, 5)) $$ [Ho3 Hv3] with ⟨HaS3, #HnS3⟩
  · isplitr; · iexact HI
    isplitl [Ho3]; · iexact Ho3
    iexact Hv3
  imod (open_at m K (c, 6)) $$ [Hr1 Hw1] with ⟨HaR1, #HnR1⟩
  · isplitr; · iexact HI
    isplitl [Hr1]; · iexact Hr1
    iexact Hw1
  imod (open_at m K (c, 7)) $$ [Hr2 Hw2] with ⟨HaR2, #HnR2⟩
  · isplitr; · iexact HI
    isplitl [Hr2]; · iexact Hr2
    iexact Hw2
  imod (open_at m K (c, 8)) $$ [Hr3 Hw3] with ⟨HaR3, #HnR3⟩
  · isplitr; · iexact HI
    isplitl [Hr3]; · iexact Hr3
    iexact Hw3
  imodintro
  isplitr; · iexists K; iexact HI
  isplitl [Hc0 Hc1 Hc2 Hc3]
  · isplitl [Hc0]; · iexact Hc0
    isplitl [Hc1]; · iexact Hc1
    isplitl [Hc2]; · iexact Hc2
    iexact Hc3
  isplitl [Hab HaS0 HaS1 HaS2 HaS3 HaR1 HaR2 HaR3]
  · isplitl [Hab]; · iexact Hab
    isplitl [HaS0]; · iexact HaS0
    isplitl [HaS1]; · iexact HaS1
    isplitl [HaS2]; · iexact HaS2
    isplitl [HaS3]; · iexact HaS3
    isplitl [HaR1]; · iexact HaR1
    isplitl [HaR2]; · iexact HaR2
    iexact HaR3
  isplitr
  · isplitr; · iexact Hb1
    isplitr; · iexact Hb2
    isplitr; · iexact Hb3
    isplitr; · iexact HnS0
    isplitr; · iexact HnS1
    isplitr; · iexact HnS2
    isplitr; · iexact HnS3
    isplitr; · iexact HnR1
    isplitr; · iexact HnR2
    isplitr; · iexact HnR3
    iexact HnF
  isplitl [Hbt]; · iexact Hbt
  isplitl [Hst]; · iexact Hst
  isplitl [Hrt]; · iexact Hrt
  isplitl [Hcf HaF Hf1 Hf2 Hf3]
  · isplitl [Hcf]; · iexact Hcf
    isplitl [HaF]; · iexact HaF
    isplitl [Hf1]; · iexact Hf1
    isplitl [Hf2]; · iexact Hf2
    iexact Hf3
  iexact Hw0

/-! ## The region -/

/-- What the region is entered from, and what it leaves: the device's block of `x`, `w` and the result, and the barrier's
    counter back at zero. -/
def regPre (c : Dev nD) : sProp 𝕄 :=
  iprop(StableHlo.held (c : Thread nD τ) (Pipeline.ucRefs τ sig) (V1 m c) ∗ deal m c ∗ ∃ W, owes (c : Thread nD τ) (O₀ c) W)
def kept (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v9) ↦{fullShare} ((dats (F := F) m 0 c).arrAt 1 17))
    ∗ semVal (barCell c) 0)
def regPost (c : Dev nD) : sProp 𝕄 := iprop(kept m c ∗ ∃ W, owes (c : Thread nD τ) 0 W)

/-- What enters the pipeline's state beside the tables and the scratch buffers, and what comes out. -/
def regIn (c : Dev nD) : sProp 𝕄 :=
  iprop(levAts L lv ∗ (((c : Thread nD τ).loc main_arg0) ↦{fullShare} m ((c : Thread nD τ).loc main_arg0)) ∗ opened m c)
def regOut (c : Dev nD) : sProp 𝕄 :=
  iprop((((c : Thread nD τ).loc main_arg0) ↦{fullShare} m ((c : Thread nD τ).loc main_arg0)) ∗ semVal (barCell c) 0)

theorem share0 (c : Dev nD) (w : Fin 2) : (dats (F := F) m 0 c).share w = fullShare := (dats m 0 c).share_full (fun _ => rfl) w

abbrev pinned : Dev nD → (p : Fin 1) → (pcfgs (F := F) p).Adm := fun c _ => adm c

omit [FloatOps F] in
theorem pref_eq (c : Dev nD) (X : pre0.Contents (Elt F)) :
    (Pipeline.prefHeld pre0 c (fun _ => fullShare) X : sProp 𝕄) = iprop(((c : Thread nD τ).loc main_v8) ↦{fullShare} X 0) := by
  unfold Pipeline.prefHeld
  exact bigSep_univ_eq_bigSepL [(0 : Fin 1)] (by decide) (by decide) _

set_option backward.isDefEq.respectTransparency.types false in
theorem bufs_out (c : Dev nD) : (StableHlo.held (c : Thread nD τ) (Pipeline.ucRefs τ sig) (V1 m c) : sProp 𝕄)
    ⊢ iprop((dats (F := F) m 0 c).arrays ((dats (F := F) m 0 c).arrAt · 0) ∗ Pipeline.prefHeld pre0 c (fun _ => fullShare) (pf (F := F) c)
      ∗ (((c : Thread nD τ).loc main_arg0) ↦{fullShare} m ((c : Thread nD τ).loc main_arg0))) := by
  rw [← Pipeline.unscopedBufs_held (Ix := Unit) (Name := ℕ) (U := UU) (Lvl := ℕ) c (V1 m c)]
  have h1 := Pipeline.PerCore.arrays_of_unscopedBufs (pcfgs (F := F)) (pinned (F := F)) (dats (F := F) m) (p := 0) winFacts0 arr_whole0 c (share0 m c) (fun b => V1 m c b) (fun w => rfl)
  refine BIBase.Entails.trans h1 (sep_mono .rfl ?_)
  refine BIBase.Entails.trans (Entails.of_eq (Pipeline.unscopedRest_split preFacts0 c (fun b => V1 m c b))) (sep_mono (Entails.of_eq ?_) ?_)
  · rw [pref_eq, pref_eq]; exact congrArg _ (tab_eq m c)
  · rw [unscopedRestP0_eq]
    iintro ⟨H, -⟩
    iexact H

theorem region_in (c : Dev nD) : iprop(regIn m c ∗ Pipeline.prefHeld pre0 c (fun _ => fullShare) (pf (F := F) c) ∗ Pipeline.scopedRest spec0 c)
    ⊢ stFirst m c := by
  rw [scopedRest0_eq, pref_eq]
  unfold regIn stFirst opened scr
  iintro ⟨⟨Hlev, Hx, HI, Hcr, Hat, Hre, Ht1, Ht2, Ht3, Hf, Hw0⟩, Ht, ⟨%f0, H0⟩, ⟨%f1, H1⟩, ⟨%f2, H2⟩⟩
  ihave Hx := (Entails.of_eq (rows_whole m c)) $$ Hx
  ihave H1 := (Entails.of_eq (slots_whole c f1)) $$ H1
  icases H1 with ⟨Hs0, Hs1, Hs2, Hs3⟩
  isplitl [HI]; · iexact HI
  isplitl [Hlev]; · iexact Hlev
  isplitl [Ht H0 H2]
  · isplitl [Ht]; · iexact Ht
    isplitl [H2]
    · iexists f2
      isplitr
      · ipureintro; exact wbOk_start m c f2
      iexact H2
    · iexists f0
      isplitr
      · ipureintro; exact accOk_start m c f0
      iexact H0
  isplitl [Hs0 Hs1 Hs2 Hs3]
  · isplitl [Hs0]; · iexists f1; iexact Hs0
    isplitl [Hs1]; · iexists f1; iexact Hs1
    isplitl [Hs2]; · iexists f1; iexact Hs2
    iexists f1; iexact Hs3
  isplitl [Hx]; · iexact Hx
  isplitl [Hcr]; · iexact Hcr
  isplitl [Hat]; · iexact Hat
  isplitl [Hre]; · iexact Hre
  isplitl [Ht1]; · iexact Ht1
  isplitl [Ht2]; · iexact Ht2
  isplitl [Ht3]; · iexact Ht3
  isplitl [Hf]; · iexact Hf
  iexact Hw0

theorem region_out (c : Dev nD) : stLast m c ⊢ iprop(regOut m c ∗ Pipeline.ownSems0 osem c ∗ Pipeline.scopedRest spec0 c) := by
  rw [scopedRest0_eq, own_eq]
  unfold regOut stLast
  iintro ⟨-, ⟨%f2, H2⟩, ⟨%f0, H0⟩, Hs, Hx, Hb, Hf, Hv0, Hv1, Hv2, Hv3, Hw0, Hw1, Hw2, Hw3⟩
  ihave Hx := (Entails.of_eq (rows_whole m c).symm) $$ Hx
  ihave Hs := (Entails.of_eq (slots_whole c (xF m c)).symm) $$ Hs
  isplitl [Hx Hb]
  · isplitl [Hx]; · iexact Hx
    iexact Hb
  isplitl [Hf Hv0 Hv1 Hv2 Hv3 Hw0 Hw1 Hw2 Hw3]
  · isplitl [Hf]; · iexact Hf
    isplitl [Hv0]; · iexact Hv0
    isplitl [Hv1]; · iexact Hv1
    isplitl [Hv2]; · iexact Hv2
    isplitl [Hv3]; · iexact Hv3
    isplitl [Hw0]; · iexact Hw0
    isplitl [Hw1]; · iexact Hw1
    isplitl [Hw2]; · iexact Hw2
    iexact Hw3
  isplitl [H0]; · iexists f0; iexact H0
  isplitl [Hs]; · iexists (xF m c); iexact Hs
  iexists f2; iexact H2

theorem above_owed (c : Dev nD) (t : ℕ) : Above 1 (owedAt c t) := by
  unfold owedAt
  split
  · exact above_O₀ c
  split
  · exact (above_Ofin c).mono (by decide)
  · exact Above.zero 1

/-- The staging semaphores lie below everything owed. -/
theorem region_waits (c : Dev nD) : (levAts L lv : sProp 𝕄)
    ⊢ Pipeline.PerCore.cellsWaits (Pipeline.pinD (pcfgs (F := F)) pinned) (dats (F := F) m) () 0 c :=
  Pipeline.PerCore.cellsWaits_intro (Pipeline.pinD (pcfgs (F := F)) pinned) (dats (F := F) m) () 0 c fun w s t => by
    refine mayWait c _ 0 (owedAt c t.val) (Nat.le_of_eq ?_) (above_owed c t.val)
    have h : ∀ (w : Fin 2) (s : Fin (spec0 w).nbuf), lv ((c : Thread nD τ), .dma ((spec0 w).sem s)) () = 0 := by
      intro w s
      have h2 : ∀ (w : Fin 2) (s : Fin (spec0 w).nbuf), ¬ IsLanding ((spec0 w).sem s) := by decide
      exact if_neg (h2 w s)
    exact h w s

set_option backward.isDefEq.respectTransparency.types false in
theorem region_exit (c : Dev nD) : iprop((dats (F := F) m 0 c).arrays ((dats (F := F) m 0 c).arrAt · 17) ∗ (dats (F := F) m 0 c).owesAt () (Fin.last 17) ∗ regOut m c ∗ emp)
    ⊢ |={Set.univ}=> regPost m c := by
  have h := Pipeline.PerCore.arrays_eq (Pipeline.pinD (pcfgs (F := F)) pinned) (dats (F := F) m) 0 c arr_whole0 (share0 m c) ((dats (F := F) m 0 c).arrAt · 17)
  rw [h, bigSep_W0]
  dsimp only
  have h0 : (dats (F := F) m 0 c).arrAt 0 17 = m ((c : Thread nD τ).loc main_arg1) :=
    ((dats (F := F) m 0 c).arrAt_in 0 rfl 17).trans (V1_of m c main_arg1 (by decide))
  rw [h0]
  unfold regPost kept regOut
  iintro ⟨⟨Hw, Hr⟩, HO, ⟨Hx, Hb⟩, -⟩
  ihave HO := (owesAt_elim m c (Fin.last 17) 0 rfl) $$ HO
  imodintro
  isplitr [HO]
  · isplitl [Hx]; · iexact Hx
    isplitl [Hw]; · iexact Hw
    isplitl [Hr]; · iexact Hr
    iexact Hb
  iexact HO

theorem region_entry (c : Dev nD) : iprop(regPre m c ∗ Pipeline.ownSems0 osem c ∗ levAts L lv)
    ⊢ |={Set.univ}=> iprop((dats (F := F) m 0 c).arrays ((dats (F := F) m 0 c).arrAt · 0) ∗ Pipeline.prefHeld pre0 c (fun _ => fullShare) (pf (F := F) c)
      ∗ (dats (F := F) m 0 c).owesAt () 0 ∗ regIn m c ∗ emp) := by
  unfold regPre regIn
  iintro ⟨⟨Hh, Hd, HO⟩, Hos, Hlev⟩
  ihave Hh := (bufs_out m c) $$ Hh
  icases Hh with ⟨Ha, Ht, Hx⟩
  ihave HO := (owesAt_intro m c 0 (O₀ c) rfl) $$ HO
  imod (open_all m c) $$ [Hd Hos] with Hd
  · isplitl [Hd]; · iexact Hd
    iexact Hos
  imodintro
  isplitl [Ha]; · iexact Ha
  isplitl [Ht]; · iexact Ht
  isplitl [HO]; · iexact HO
  isplitl [Hlev Hx Hd]
  · isplitl [Hlev]; · iexact Hlev
    isplitl [Hx]; · iexact Hx
    iexact Hd
  iempintro

theorem osem_facts : Pipeline.OwnSemFacts spec0 osem := by decide

set_option backward.isDefEq.respectTransparency.types false in
/-- The kernel's region. -/
def reg : Pipeline.PerCore.RegionSeg (pcfgs (F := F)) pinned (dats (F := F) m) () defs₀ 𝒱₀ L lv 0 where
  win := winFacts0.to₀
  block_pos := block_pos0
  stage_whole := stage_whole0
  K := Fin 9
  osem := osem
  ho := osem_facts
  hbody := fun c => (body_obligation m c).loose
  hwaits := region_waits m
  pre := regPre m
  post := regPost m
  X := regIn m
  Y := regOut m
  Z := fun _ => iprop(emp)
  hentry := region_entry m
  hin := region_in m
  hout := region_out m
  hexit := region_exit m

end Cert.KernelIdeal.Fused

end
-- ==== Proof.Launch.lean ====
/-
  The launch: the cells' invariants and tokens dealt to the devices, and the run of the whole program.
-/
module

public import proofs.«01_k».proof.Proof.Region
public import Idealize.ShloMosaic.Lib.Quiescent

@[expose] public section

set_option maxRecDepth 16384

noncomputable section

namespace Cert.KernelIdeal.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Seg HostSeg BodyObligation)

variable {F : FTy → Type} [FloatOps F]

local notation "𝕄" => MT nD τ sig Unit (Elt F) ℕ UU ℕ

variable (m : (ℓ : Loc nD τ sig) → Buf (Elt F) ℓ)

/-! ## The cells and the tokens -/

/-- The scoped cells of a device, without the receive semaphore that is never used. -/
def scSem : Fin 8 → SemLoc sig
  | 0 => .reg finS
  | 1 => .dma (sndS 0) | 2 => .dma (sndS 1) | 3 => .dma (sndS 2) | 4 => .dma (sndS 3)
  | 5 => .dma (rcvS 1) | 6 => .dma (rcvS 2) | 7 => .dma (rcvS 3)

theorem scSem_inj : Function.Injective scSem := by decide
theorem scSem_ne : ∀ k, scSem k ≠ .reg barS := by decide

def barEmb : Dev nD ↪ GSem nD τ sig := ⟨fun c => barCell c, fun _ _ h => congrArg (fun g : GSem nD τ sig => g.1.1) h⟩
def scEmb : Dev nD × Fin 8 ↪ GSem nD τ sig :=
  ⟨fun x => ((x.1 : Thread nD τ), scSem x.2), fun _ _ h =>
    Prod.ext (congrArg (fun g : GSem nD τ sig => g.1.1) h) (scSem_inj (congrArg Prod.snd h))⟩

abbrev barCells : Finset (GSem nD τ sig) := Finset.univ.map barEmb
abbrev scCells : Finset (GSem nD τ sig) := Finset.univ.map scEmb

/-- The duties of a device's cells: the cell's semaphore and the duty's name. -/
def tok : Fin 13 → SemLoc sig × Fin 4
  | 0 => (.reg barS, 1) | 1 => (.reg barS, 2) | 2 => (.reg barS, 3)
  | 3 => (.dma (sndS 0), 0) | 4 => (.dma (sndS 1), 0) | 5 => (.dma (sndS 2), 0) | 6 => (.dma (sndS 3), 0)
  | 7 => (.dma (rcvS 1), 0) | 8 => (.dma (rcvS 2), 0) | 9 => (.dma (rcvS 3), 0)
  | 10 => (.reg finS, 1) | 11 => (.reg finS, 2) | 12 => (.reg finS, 3)
theorem tok_inj : Function.Injective tok := by decide

def tokens : Finset (GSem nD τ sig × ℕ × Fin 4) :=
  Finset.univ.map ⟨fun x : Dev nD × Fin 13 => (((x.1 : Thread nD τ), (tok x.2).1), 0, (tok x.2).2), fun _ _ h =>
    Prod.ext (congrArg (fun t : GSem nD τ sig × ℕ × Fin 4 => t.1.1.1) h)
      (tok_inj (Prod.ext (congrArg (fun t : GSem nD τ sig × ℕ × Fin 4 => t.1.2) h) (congrArg (fun t : GSem nD τ sig × ℕ × Fin 4 => t.2.2) h)))⟩

theorem cells_disjoint : Disjoint (barCells : Finset (GSem nD τ sig)) scCells := by
  rw [Finset.disjoint_left]
  intro g h₁ h₂
  obtain ⟨c, -, rfl⟩ := Finset.mem_map.mp h₁
  obtain ⟨x, -, h⟩ := Finset.mem_map.mp h₂
  exact scSem_ne x.2 (congrArg Prod.snd h)

theorem cellAt_mem (x : CellIx) : cellAt x ∈ (barCells ∪ scCells : Finset (GSem nD τ sig)) := by
  obtain ⟨c, k⟩ := x
  have hb : barCell c ∈ (barCells ∪ scCells : Finset (GSem nD τ sig)) := Finset.mem_union_left _ (Finset.mem_map_of_mem barEmb (Finset.mem_univ c))
  have hs (j : Fin 8) : ((c : Thread nD τ), scSem j) ∈ (barCells ∪ scCells : Finset (GSem nD τ sig)) :=
    Finset.mem_union_right _ (Finset.mem_map_of_mem scEmb (Finset.mem_univ (c, j)))
  match k with
  | 0 => exact hb
  | 1 => exact hs 0
  | 2 => exact hs 1
  | 3 => exact hs 2
  | 4 => exact hs 3
  | 5 => exact hs 4
  | 6 => exact hs 5
  | 7 => exact hs 6
  | 8 => exact hs 7

/-! ## The tokens, from the cells' owners to the duties' payers -/

/-- Round the mesh by `k`. -/
def rot (k : Fin 4) : Dev nD ≃ Dev nD := ⟨fun c => pl c k, fun c => pl c (-k), fun c => pl_neg c k, fun c => pl_neg' c k⟩

def ownToks (c : Dev nD) : sProp 𝕄 :=
  iprop(dutyTok ER (barCell c) 0 1 ∗ dutyTok ER (barCell c) 0 2 ∗ dutyTok ER (barCell c) 0 3
    ∗ dutyTok ER (sndCell c 0) 0 0 ∗ dutyTok ER (sndCell c 1) 0 0 ∗ dutyTok ER (sndCell c 2) 0 0 ∗ dutyTok ER (sndCell c 3) 0 0
    ∗ dutyTok ER (rcvCell c 1) 0 0 ∗ dutyTok ER (rcvCell c 2) 0 0 ∗ dutyTok ER (rcvCell c 3) 0 0
    ∗ dutyTok ER (finCell c) 0 1 ∗ dutyTok ER (finCell c) 0 2 ∗ dutyTok ER (finCell c) 0 3)
def payToks (c : Dev nD) : sProp 𝕄 :=
  iprop(dutyTok ER (barCell (pl c 1)) 0 1 ∗ dutyTok ER (barCell (pl c 2)) 0 2 ∗ dutyTok ER (barCell (pl c 3)) 0 3
    ∗ dutyTok ER (sndCell c 0) 0 0 ∗ dutyTok ER (sndCell c 1) 0 0 ∗ dutyTok ER (sndCell c 2) 0 0 ∗ dutyTok ER (sndCell c 3) 0 0
    ∗ dutyTok ER (rcvCell (pl c 1) 1) 0 0 ∗ dutyTok ER (rcvCell (pl c 2) 2) 0 0 ∗ dutyTok ER (rcvCell (pl c 3) 3) 0 0
    ∗ dutyTok ER (finCell (pl c 1)) 0 1 ∗ dutyTok ER (finCell (pl c 2)) 0 2 ∗ dutyTok ER (finCell (pl c 3)) 0 3)

omit [FloatOps F] in
theorem toks_own : bigSep tokens (fun x => (dutyTok ER x.1 x.2.1 x.2.2 : sProp 𝕄)) = bigSep Finset.univ fun c : Dev nD => ownToks c := by
  unfold tokens
  rw [bigSep_map, bigSep_univ_prod]
  exact bigSep_congr fun c _ => bigSep_univ_eq_bigSepL [(0 : Fin 13), 1, 2, 3, 4, 5, 6, 7, 8, 9, 10, 11, 12] (by decide) (by decide) _

omit [FloatOps F] in
theorem rotated (k : Fin 4) (Φ : Dev nD → sProp 𝕄) : bigSep Finset.univ (fun c => Φ c) = bigSep Finset.univ fun c => Φ (pl c k) :=
  bigSep_univ_equiv (rot k) Φ

omit [FloatOps F] in
theorem toks_pay : (bigSep Finset.univ fun c : Dev nD => (ownToks c : sProp 𝕄)) = bigSep Finset.univ fun c : Dev nD => payToks c := by
  unfold ownToks payToks
  simp only [bigSep_sep']
  rw [rotated 1 (fun c => (dutyTok ER (barCell c) 0 1 : sProp 𝕄)), rotated 2 (fun c => (dutyTok ER (barCell c) 0 2 : sProp 𝕄)), rotated 3 (fun c => (dutyTok ER (barCell c) 0 3 : sProp 𝕄)),
    rotated 1 (fun c => (dutyTok ER (rcvCell c 1) 0 0 : sProp 𝕄)), rotated 2 (fun c => (dutyTok ER (rcvCell c 2) 0 0 : sProp 𝕄)), rotated 3 (fun c => (dutyTok ER (rcvCell c 3) 0 0 : sProp 𝕄)),
    rotated 1 (fun c => (dutyTok ER (finCell c) 0 1 : sProp 𝕄)), rotated 2 (fun c => (dutyTok ER (finCell c) 0 2 : sProp 𝕄)), rotated 3 (fun c => (dutyTok ER (finCell c) 0 3 : sProp 𝕄))]

/-! ## The launch credit -/

theorem tally_tc (a b : Dev nD) (sa sb : SemLoc sig) (n : ℕ) :
    (tallyAt ((a : Thread nD τ), sa) () n : CellTallies nD τ sig Unit) ((b : Thread nD τ), sb) () = if b = a ∧ sb = sa then n else 0 := by
  rw [tallyAt_apply]
  by_cases h : b = a ∧ sb = sa
  · obtain ⟨rfl, rfl⟩ := h
    rw [if_pos ⟨rfl, rfl⟩, if_pos ⟨rfl, rfl⟩]
  · rw [if_neg h, if_neg]
    rintro ⟨e, -⟩
    exact h ⟨congrArg (fun g : GSem nD τ sig => g.1.1) e, congrArg Prod.snd e⟩

/-- What device `d` owes at launch to a cell of device `c`. -/
def due (d c : Dev nD) (sm : SemLoc sig) (n : ℕ) : ℕ :=
  (if c = pl d 3 ∧ sm = .reg finS then 1 else 0) + (if c = pl d 2 ∧ sm = .reg finS then 1 else 0) + (if c = pl d 1 ∧ sm = .reg finS then 1 else 0)
    + (if c = pl d 3 ∧ sm = .dma (rcvS 3) then n else 0) + (if c = pl d 2 ∧ sm = .dma (rcvS 2) then n else 0) + (if c = pl d 1 ∧ sm = .dma (rcvS 1) then n else 0)
    + (if c = pl d 3 ∧ sm = .reg barS then 1 else 0) + (if c = pl d 2 ∧ sm = .reg barS then 1 else 0) + (if c = pl d 1 ∧ sm = .reg barS then 1 else 0)

theorem owed_due (d c : Dev nD) (sm : SemLoc sig) : O₀ d ((c : Thread nD τ), sm) () = due d c sm A := by
  unfold O₀ Osnd Ofin due
  simp only [Pi.add_apply, Finsupp.add_apply, tally_tc, Pi.zero_apply, Finsupp.zero_apply, Nat.zero_add]

theorem due_reg (c : Dev nD) (n : ℕ) (s : Sem sig) (hs : s = barS ∨ s = finS) : ∑ d : Dev nD, due d c (.reg s) n = 3 := by
  have h (d : Dev nD) : due d c (.reg s) n = due d c (.reg s) 0 := by
    unfold due
    simp only [show ∀ k, (SemLoc.reg s : SemLoc sig) ≠ .dma (rcvS k) from fun k => (by intro h; cases h), and_false, if_false]
  rw [Finset.sum_congr rfl fun d _ => h d]
  clear h
  rcases hs with rfl | rfl <;> (revert c; decide)

theorem due_rcv (c : Dev nD) (n : ℕ) {k : Fin 4} (hk : k ≠ 0) : ∑ d : Dev nD, due d c (.dma (rcvS k)) n = n := by
  have h (d : Dev nD) : due d c (.dma (rcvS k)) n = if d = pl c (-k) then n else 0 := by
    have e (j : Fin 4) : (c = pl d j ∧ (SemLoc.dma (rcvS k) : SemLoc sig) = .dma (rcvS j)) ↔ (j = k ∧ d = pl c (-k)) := by revert c d j k; decide
    unfold due
    simp only [show ∀ s : Sem sig, (SemLoc.dma (rcvS k) : SemLoc sig) ≠ .reg s from fun k => (by intro h; cases h), and_false, if_false, e]
    by_cases hd : d = pl c (-k)
    · simp only [hd, and_true, if_true]
      revert hk
      match k with
      | 0 => exact fun h => absurd rfl h
      | 1 => intro _; simp
      | 2 => intro _; simp
      | 3 => intro _; simp
    · simp only [hd, and_false, if_false]
  rw [Finset.sum_congr rfl fun d _ => h d, Finset.sum_ite_eq' Finset.univ (pl c (-k)) fun _ => n, if_pos (Finset.mem_univ _)]

theorem launch_at (c : Dev nD) (sm : SemLoc sig) (n : ℕ) (h : ∑ d : Dev nD, due d c sm A = n) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => owed_due d c sm, h]

omit [FloatOps F] in
/-- A device's launch credit: the units and landings its peers owe it. -/
theorem creds (c : Dev nD) : (Pipeline.launchCred O₀ c : sProp 𝕄) ⊢ iprop(cred (tallyAt (barCell c) () 3) ∗ cred (tallyAt (rcvCell c 1) () A)
    ∗ cred (tallyAt (rcvCell c 2) () A) ∗ cred (tallyAt (rcvCell c 3) () A) ∗ cred (tallyAt (finCell c) () 3)) := by
  unfold Pipeline.launchCred
  refine BIBase.Entails.trans (bigSep_subset (Finset.subset_univ ([.reg barS, .dma (rcvS 1), .dma (rcvS 2), .dma (rcvS 3), .reg finS] : List (SemLoc sig)).toFinset)) ?_
  rw [bigSep_eq_bigSepL_of_eq (S := ([.reg barS, .dma (rcvS 1), .dma (rcvS 2), .dma (rcvS 3), .reg finS] : List (SemLoc sig)).toFinset)
    [.reg barS, .dma (rcvS 1), .dma (rcvS 2), .dma (rcvS 3), .reg finS] rfl (by decide)]
  show iprop(cred _ ∗ cred _ ∗ cred _ ∗ cred _ ∗ cred _) ⊢ _
  rw [launch_at c (.reg barS) 3 (due_reg c A _ (Or.inl rfl)), launch_at c (.dma (rcvS 1)) A (due_rcv c A (by decide)), launch_at c (.dma (rcvS 2)) A (due_rcv c A (by decide)),
    launch_at c (.dma (rcvS 3)) A (due_rcv c A (by decide)), launch_at c (.reg finS) 3 (due_reg c A _ (Or.inr rfl))]

/-! ## Dealing -/

theorem cells_inj : Function.Injective (Pipeline.PerCore.cellOf (nD := nD) (τ := τ) (Pipeline.pinD (pcfgs (F := F)) pinned)) :=
  Pipeline.PerCore.cellOf_injective (Pipeline.pinD (pcfgs (F := F)) pinned)
    (fun _ p => match p with | 0 => Pipeline.specSemsDistinct_of_nodup spec0 (semsDistinct 0))
    (fun _ p p' h => absurd (Subsingleton.elim p p') h)

def u₀ : UU :=
  (initOf (Pipeline.PerCore.cells (Pipeline.pinD (pcfgs (F := F)) pinned) cells_inj) (Pipeline.PerCore.launchToks (Pipeline.pinD (pcfgs (F := F)) pinned) cells_inj),
    launchOf barCells scCells tokens)

/-- A resource held for all, by device 0. -/
def onFirst (X : sProp 𝕄) (c : Dev nD) : sProp 𝕄 := if c = (0 : Fin 4) then X else iprop(emp)
omit [FloatOps F] in
theorem onFirst_eq (X : sProp 𝕄) : bigSep Finset.univ (onFirst X) = X := by
  rw [around (0 : Fin 4) (onFirst X)]
  unfold onFirst
  rw [if_pos (by decide), if_neg (by decide), if_neg (by decide), if_neg (by decide)]
  have h₁ : iprop(X ∗ emp ∗ emp ∗ emp) ⊢ X := by
    iintro ⟨H, -⟩; iexact H
  have h₂ : X ⊢ iprop(X ∗ emp ∗ emp ∗ emp) := by
    iintro H
    isplitl [H]; · iexact H
    isplitr; · iempintro
    isplitr <;> iempintro
  exact BI.equiv_iff.mp ⟨h₁, h₂⟩

/-- What all devices know: the cells' invariants, and that the barriers are open. -/
def known (κ : GSem nD τ sig → ℕ) : sProp 𝕄 := iprop(invs m κ ∗ bigSep Finset.univ fun c : Dev nD => reached ER (barCell c) 0)
instance (κ : GSem nD τ sig → ℕ) : BI.Persistent (known (F := F) m κ) := by unfold known; infer_instance

/-- What is device `c`'s own. -/
def own (c : Dev nD) : sProp 𝕄 :=
  iprop((cred (tallyAt (barCell c) () 3) ∗ cred (tallyAt (rcvCell c 1) () A) ∗ cred (tallyAt (rcvCell c 2) () A) ∗ cred (tallyAt (rcvCell c 3) () A) ∗ cred (tallyAt (finCell c) () 3))
    ∗ owes (c : Thread nD τ) (O₀ c) ∅ ∗ StableHlo.held (c : Thread nD τ) (Pipeline.ucRefs τ sig) (V0 m c))
def rights (c : Dev nD) : sProp 𝕄 :=
  iprop(openTok ER (finCell c) ∗ openTok ER (sndCell c 0) ∗ openTok ER (sndCell c 1) ∗ openTok ER (sndCell c 2) ∗ openTok ER (sndCell c 3)
    ∗ openTok ER (rcvCell c 1) ∗ openTok ER (rcvCell c 2) ∗ openTok ER (rcvCell c 3))

/-- What a device starts the program with, beside its buffers. -/
def rest (_ : Fin 2) (c : Dev nD) : sProp 𝕄 := iprop(deal m c ∗ ∃ W, owes (c : Thread nD τ) (O₀ c) W)

theorem deal_intro (κ : GSem nD τ sig → ℕ) (c : Dev nD) :
    iprop(known m κ ∗ atPos ER (barCell c) 0 ∅ 0 ∗ rights c ∗ payToks c ∗ own m c)
      ⊢ iprop(StableHlo.held (c : Thread nD τ) (Pipeline.ucRefs τ sig) (V0 m c) ∗ rest m 0 c) := by
  have hr (k : Fin 4) : (bigSep Finset.univ fun c : Dev nD => (reached ER (barCell c) 0 : sProp 𝕄)) ⊢ reached ER (barCell (pl c k)) 0 :=
    bigSep_elim (Finset.mem_univ (pl c k))
  unfold known rights payToks own rest deal
  iintro ⟨⟨#HI, #HR⟩, Hat, Ho, ⟨Hb1, Hb2, Hb3, Hs0, Hs1, Hs2, Hs3, Hr1, Hr2, Hr3, Hf1, Hf2, Hf3⟩, Hcr, HO, Hh⟩
  ihave #HR1 := (hr 1) $$ HR
  ihave #HR2 := (hr 2) $$ HR
  ihave #HR3 := (hr 3) $$ HR
  isplitl [Hh]; · iexact Hh
  isplitr [HO]
  · isplitr; · iexists κ; iexact HI
    isplitl [Hcr]; · iexact Hcr
    isplitl [Hat]; · iexact Hat
    isplitr
    · isplitr; · iexact HR1
      isplitr; · iexact HR2
      iexact HR3
    isplitl [Ho]; · iexact Ho
    isplitl [Hb1 Hb2 Hb3]
    · isplitl [Hb1]; · iexact Hb1
      isplitl [Hb2]; · iexact Hb2
      iexact Hb3
    isplitl [Hs0 Hs1 Hs2 Hs3]
    · isplitl [Hs0]; · iexact Hs0
      isplitl [Hs1]; · iexact Hs1
      isplitl [Hs2]; · iexact Hs2
      iexact Hs3
    isplitl [Hr1 Hr2 Hr3]
    · isplitl [Hr1]; · iexact Hr1
      isplitl [Hr2]; · iexact Hr2
      iexact Hr3
    isplitl [Hf1]; · iexact Hf1
    isplitl [Hf2]; · iexact Hf2
    iexact Hf3
  · iexists ∅; iexact HO

omit [FloatOps F] in
theorem unscoped_bar (c : Dev nD) : (unscopedSems0 c : sProp 𝕄) = semVal (barCell c) 0 := by
  unfold unscopedSems0
  rw [show (Finset.univ.filter fun sm : SemLoc sig => ¬ sm.isScoped .tc) = {.reg barS} from by decide, bigSep_singleton]

variable (ρ : Dev nD → PrngReg)

def G : Dev nD → sProp 𝕄 := onFirst (BI.own (ER (launchOf barCells scCells tokens)))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ rest m 0 c) : sProp 𝕄) := by
  have hcore : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => own m c) ∗ (bigSep Finset.univ fun c : Dev nD => semVal (barCell c) 0) ∗ bigSep Finset.univ (G (F := F))) : sProp 𝕄) := by
    rw [← bigSep_sep', ← bigSep_sep']
    have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c) ⊢ (iprop(own m c ∗ semVal (barCell c) 0 ∗ G c) : sProp 𝕄) := by
      rw [show unscopedBufs c (fun b => m ((c : Thread nD τ).loc b)) = StableHlo.held (c : Thread nD τ) (Pipeline.ucRefs τ sig) (V0 m c)
        from Pipeline.unscopedBufs_held (Ix := Unit) (Name := ℕ) (U := UU) (Lvl := ℕ) c (V0 m c), unscoped_bar]
      unfold own
      iintro ⟨Hh, Hv, HO, Hcr, -, HG⟩
      ihave Hcr := (creds c) $$ Hcr
      isplitl [Hh HO Hcr]
      · isplitl [Hcr]; · iexact Hcr
        isplitl [HO]; · iexact HO
        iexact Hh
      isplitl [Hv]; · iexact Hv
      iexact HG
    exact bigSep_mono fun c _ => hone c
  have hv : (bigSep Finset.univ fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hre : bigSep barCells (fun g => (reached ER g 0 : sProp 𝕄)) = bigSep Finset.univ (fun c : Dev nD => (reached ER (barCell c) 0 : sProp 𝕄)) :=
    bigSep_map (s := Finset.univ) barEmb (Φ := fun g : GSem nD τ sig => (reached ER g 0 : sProp 𝕄))
  have hop : bigSep scCells (fun g => (openTok ER g : sProp 𝕄)) = bigSep Finset.univ (fun c : Dev nD => (rights c : sProp 𝕄)) := by
    rw [bigSep_map, bigSep_univ_prod]
    exact bigSep_congr fun c _ => bigSep_univ_eq_bigSepL [(0 : Fin 8), 1, 2, 3, 4, 5, 6, 7] (by decide) (by decide) _
  have hinv (κ : GSem nD τ sig → ℕ) : (bigSep (barCells ∪ scCells) fun g => (cellInv ER (Rd m) (κ g) g : sProp 𝕄)) ⊢ invs m κ := by
    unfold invs
    exact bigSep_intro_persistent fun x _ => bigSep_elim (cellAt_mem x)
  iintro ⟨H, -⟩
  ihave H := hcore $$ H
  icases H with ⟨HB, Hv, HG⟩
  ihave Hv := (Entails.of_eq hv) $$ Hv
  ihave HG := (show bigSep Finset.univ (G (F := F)) ⊢ (BI.own (ER (launchOf barCells scCells tokens)) : sProp 𝕄) from Entails.of_eq (onFirst_eq _)) $$ HG
  imod (Rounds.fund_launch ER (Rd m) cells_disjoint (fun g _ h => h) tokens) $$ [Hv HG] with ⟨%κ, -, #Hinv, #Hr, Hat, Hopen, Htok⟩
  · isplitl [Hv]; · iexact Hv
    iexact HG
  ihave #HI := (hinv κ) $$ Hinv
  ihave #HR := (Entails.of_eq hre) $$ Hr
  ihave Hat := (Entails.of_eq hat) $$ Hat
  ihave Hopen := (Entails.of_eq hop) $$ Hopen
  ihave Htok := (Entails.of_eq (toks_own.trans toks_pay)) $$ Htok
  imodintro
  iapply (bigSep_with_persistent (R := known m κ) (Φ := fun c => iprop(atPos ER (barCell c) 0 ∅ 0 ∗ rights c ∗ payToks c ∗ own m c)) fun c _ => deal_intro m κ c)
  isplitr
  · unfold known
    isplitr; · iexact HI
    iexact HR
  rw [bigSep_sep', bigSep_sep', bigSep_sep']
  isplitl [Hat]; · iexact Hat
  isplitl [Hopen]; · iexact Hopen
  isplitl [Htok]; · iexact Htok
  iexact HB

/-! ## The run -/

theorem unscoped_only : ∀ sm : SemLoc sig, sm.isScoped .tc = false → sm = .reg barS := by decide

set_option backward.isDefEq.respectTransparency.types false in
/-- The program as a host stretch and the kernel's region. -/
def items (c : Dev nD) : List (Pipeline.PerCore.Seg (pcfgs (F := F)) pinned (dats (F := F) m) () defs₀ 𝒱₀ L lv) :=
  [.host (seg0 m 𝒱₀ L lv (rest m) c), .region (reg m)]

set_option backward.isDefEq.respectTransparency.types false in
/-- The run: from any memory with zero counters every execution on the four devices ends, without a fault, with both arguments
    unchanged, the result at the blocks the grid's last four points left, and every counter at zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = (dats (F := F) m 0 c).arrAt 1 17) ∧ r.2.sem = fun _ => 0) :=
  Pipeline.PerCore.θ_run_regions_kit_sems (pcfgs (F := F)) pinned (dats m) () cells_inj EP defs₀ 𝒱₀ L lv m ρ main (items m)
    (fun c Q => by
      rewrite [main_chain c, Pipeline.PerCore.Seg.run_eq_chain,
        show (items m c).map Pipeline.PerCore.Seg.prog = [StableHlo.seq (hostOps0 c), Prog.lift (.customCall (Pipeline.entry 0) ())] from rfl]
      exact .rfl)
    (fun c => by simp only [items, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onFirst_eq]; iexact HX)
    (T₀ := fun c => iprop(StableHlo.held (c : Thread nD τ) (Pipeline.ucRefs τ sig) (V0 m c) ∗ rest m 0 c)) (Tₙ := kept m)
    (hch := fun c => ⟨.rfl, .rfl, .rfl⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v9) = (dats (F := F) m 0 c).arrAt 1 17) ∧ s.sem (barCell c) = 0)
    (hfin := fun c s' => by
      unfold kept
      iintro ⟨⟨Hx, Hw, Ho, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => (h c).1, sem_eq_zero hs fun c sm hsm => by
        obtain rfl := unscoped_only sm hsm
        exact (h c).2⟩)

end Cert.KernelIdeal.Fused

end
-- ==== Proof.Frames.lean ====
/-
  The frames: every execution of the kernel's program, printed and idealized, and of the reference's, ends without a fault,
  with its arguments unchanged and every counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

/-- The idealized program's frame, over any float values. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- It holds. -/
theorem frameAt (F : FTy → Type) [FloatOps F] : FrameAt F := fun m ρ _ =>
  (θ_run Cert.KernelIdeal.defs _ _).mono (fun _ h => ⟨fun c => ⟨(h.1 c).1, (h.1 c).2.1⟩, h.2⟩) (Cert.KernelIdeal.Fused.run_main (F := F) m ρ)

/-- The two programs have one text. -/
theorem same : Cert.quiescent_Kernel = FrameAt Bits := by
  sl_kernel_rfl

/-- The kernel's program on the float words: it runs, with its arguments unchanged and its counters at zero. -/
theorem frame_kernel : Cert.quiescent_Kernel := same.mpr (frameAt Bits)

/-- The same of the idealized program. -/
theorem frame_kernelIdeal : Cert.quiescent_KernelIdeal := frameAt Ideal

/-- The same of the reference. -/
theorem frame_referenceIdeal : Cert.quiescent_ReferenceIdeal := fun m ρ _ =>
  (θ_run Cert.ReferenceIdeal.defs _ _).mono (fun _ h => ⟨fun c => (h c).2, by
      funext g
      exact ((by decide : ∀ sm : SemLoc Cert.ReferenceIdeal.sig, False) g.2).elim⟩)
    (Cert.ReferenceIdeal.Value.run m ρ)

end Cert.Proof

end
-- ==== Proof.Value.lean ====
/-
  The values: at the extended reals every device's result is its block of the reference's product, cut off below zero.
-/
module

public import proofs.«01_k».proof.Defs
public import proofs.«01_k».proof.Proof.Gen.ReferenceIdeal.Run
public import proofs.«01_k».proof.Proof.Launch
public import Idealize.ShloMosaic.Lib.Layout
public import Idealize.ShloMosaic.Lib.MatmulPlain
public import Idealize.ShloMosaic.Lib.StackMember
public import Idealize.ShloMosaic.Lib.Pipeline.Value
public import Idealize.ShloMosaic.Lib.Pipeline.ValueKit.Geometry
public import Idealize.ShloMosaic.Lib.ValueIdx

@[expose] public section

set_option maxRecDepth 16384

noncomputable section

namespace Cert.KernelIdeal.Fused

open Cert.KernelIdeal Cert.KernelIdeal.Gen
open Idealize.ShloMosaic
open Idealize.ShloMosaic.TcCoe
open Idealize.ShloMosaic.ValueIdx
open Idealize.SL.Sem

/-! ## The payloads, at an index -/

/-- The kernel's product is the plain one of two matrices. -/
theorem kernel_dot : (dot_S1024x1024_S1024x2048_S1024x2048_1_0_0_1_n_n : DotDims S1024x1024 S1024x2048 S1024x2048) = DotDims.plain 1024 1024 2048 := rfl

/-- Dropping the leading axis of one plane. -/
theorem drop_apply {α : Type} {p q : ℕ} (v : (⟨3, ![1, p, q]⟩ : Shape).Idx → α) (h : (⟨3, ![1, p, q]⟩ : Shape).ShapeCasts ⟨2, ![p, q]⟩) (a : Fin p) (b : Fin q) :
    shapeCast ⟨2, ![p, q]⟩ v h (ix2 a b) = v (ix3 0 a b) := by
  refine (shapeCast_dropUnit_apply ![p, q] v h (ix2 a b)).trans (congrArg v ?_)
  funext i
  match i with
  | ⟨0, _⟩ => rfl
  | ⟨1, _⟩ => rfl
  | ⟨2, _⟩ => rfl
/-- Adding a leading axis of length one. -/
theorem add_apply {α : Type} {p q : ℕ} (v : (⟨2, ![p, q]⟩ : Shape).Idx → α) (h : (⟨2, ![p, q]⟩ : Shape).ShapeCasts ⟨3, ![1, p, q]⟩) (a : Fin p) (b : Fin q) :
    shapeCast ⟨3, ![1, p, q]⟩ v h (ix3 0 a b) = v (ix2 a b) := by
  refine (shapeCast_addUnit_apply ![p, q] v h (ix3 0 a b)).trans (congrArg v ?_)
  funext i
  match i with
  | ⟨0, _⟩ => rfl
  | ⟨1, _⟩ => rfl

/-- A cast to the same shape changes nothing. -/
theorem same_apply {α : Type} (v : S1024x2048.Idx → α) (h : S1024x2048.ShapeCasts S1024x2048) (j : S1024x2048.Idx) : shapeCast S1024x2048 v h j = v j := by
  unfold shapeCast
  exact congrArg v (Shape.reshapeEquiv_eq_of_rowMajor _ rfl)

/-- The cast block of `w`, as stored in its plane. -/
theorem pay1_apply (v : Vec Ideal S1024x2048 .bf16) (a : Fin 1024) (b : Fin 2048) : k0_pay1 v (ix3 0 a b) = v (ix2 a b) := by
  unfold k0_pay1
  exact (add_apply _ _ a b).trans (same_apply _ _ _)

/-- A product of two planes, as a sum over the contracted axis. -/
theorem pay3_apply (x : Vec Ideal S1x1024x1024 .bf16) (w : Vec Ideal S1x1024x2048 .bf16) (a : Fin 1024) (b : Fin 2048) :
    (k0_pay3 x w (ix2 a b) : EReal) = ∑ k : Fin 1024, (x (ix3 0 a k) : EReal) * w (ix3 0 k b) := by
  unfold k0_pay3
  show FloatOps.matmul (F := Ideal) (DotDims.plain 1024 1024 2048) none _ _ _ (ix2 a b) = _
  rw [Ideal.matmul_plain_apply, constant_apply, Ideal.ofBits_zero_f32, zero_add]
  exact Finset.sum_congr rfl fun k _ => congrArg₂ (fun p q : EReal => p * q) (drop_apply _ _ a k) (drop_apply _ _ k b)

/-- What the first phase stores in the accumulator: the product. -/
theorem pay4_apply (x : Vec Ideal S1x1024x1024 .bf16) (w : Vec Ideal S1x1024x2048 .bf16) (a : Fin 1024) (b : Fin 2048) :
    (k0_pay4 x w (ix3 0 a b) : EReal) = k0_pay3 x w (ix2 a b) := by
  unfold k0_pay4
  exact add_apply _ _ a b

/-- What the second and third phases store: the accumulator plus the product. -/
theorem pay5_apply (x : Vec Ideal S1x1024x1024 .bf16) (w s : Vec Ideal S1x1024x2048 .bf16) (a : Fin 1024) (b : Fin 2048) :
    (k0_pay5 x w s (ix3 0 a b) : EReal) = (s (ix3 0 a b) : EReal) + k0_pay3 x w (ix2 a b) := by
  unfold k0_pay5
  refine (add_apply _ _ a b).trans ?_
  exact congrArg (fun p : EReal => p + k0_pay3 x w (ix2 a b)) (drop_apply s _ a b)

/-- What the last phase writes: the accumulator plus the product, cut off below zero. -/
theorem pay2_apply (v : FVec Ideal S1024x2048 .f32) (s : Vec Ideal S1x1024x2048 .bf16) (a : Fin 1024) (b : Fin 2048) :
    (k0_pay2 v s (ix2 a b) : EReal) = max ((s (ix3 0 a b) : EReal) + v (ix2 a b)) 0 := by
  unfold k0_pay2
  refine congrArg₂ (fun p q : EReal => max p q) ?_ Ideal.ofBits_zero_f32
  exact congrArg (fun p : EReal => p + v (ix2 a b)) (drop_apply s _ a b)

/-! ## A device's result, as a sum over the blocks -/

section Blocks

variable (m : (ℓ : Loc nD τ sig) → Buf (Elt Ideal) ℓ)
  (x : (⟨2, ![4096, 4096]⟩ : Shape).Idx → EReal) (w : (⟨2, ![4096, 8192]⟩ : Shape).Idx → EReal)

/-- Position `k` of the `d`-th block of the contracted axis. -/
def posOf (d : Dev nD) (k : Fin 1024) : Fin 4096 := ⟨d.val * 1024 + k.val, by have h : d.val < 4 := d.isLt; have := k.isLt; omega⟩

/-- The part of an entry of the product that the `d`-th block of the contracted axis gives. -/
def piece (r : Fin 4096) (l : Fin 8192) (d : Dev nD) : EReal := ∑ k : Fin 1024, x (ix2 r (posOf d k)) * w (ix2 (posOf d k) l)

/-- Row `a` of device `c`'s block, among all rows. -/
def rowOf (c : Dev nD) (a : Fin 1024) : Fin 4096 := ⟨c.val * 1024 + a.val, by have h : c.val < 4 := c.isLt; have := a.isLt; omega⟩
/-- Column `b` of block `n`, among all columns. -/
def colOf (n : ℕ) (b : Fin 2048) : Fin 8192 := ⟨n % 4 * 2048 + b.val, by have := b.isLt; omega⟩

/-- The devices hold the blocks of `x`, and `w`. -/
def Held : Prop :=
  ∀ c : Dev nD, m ((c : Thread nD τ).loc main_arg0) = (Layout.block ⟨2, ![4096, 1024]⟩ ⟨2, ![4096, 4096]⟩ 1 4 c x)
    ∧ m ((c : Thread nD τ).loc main_arg1) = w

variable {m x w} (h : Held m x w)
include h

omit h in
/-- An entry of the received plane, as an entry of the sender's argument. -/
theorem xs_apply (c : Dev nD) (s : ℕ) (a k : Fin 1024) : xs m c s (ix3 0 a k) = m ((src c s : Thread nD τ).loc main_arg0)
    (ix2 (⟨1024 * c.val + a.val, by have h : c.val < 4 := c.isLt; have := a.isLt; omega⟩ : Fin 4096) k : S4096x1024.Idx) := rfl
omit h in
/-- An entry of the cast block, as an entry of the device's `w`. -/
theorem wb_apply (c : Dev nD) (s : ℕ) (k : Fin 1024) (b : Fin 2048) : wb m c s (ix3 0 k b) = m ((c : Thread nD τ).loc main_arg1)
    (ix2 (⟨1024 * (src c s).val + k.val, by have h : (src c s).val < 4 := (src c s).isLt; have := k.isLt; omega⟩ : Fin 4096)
      (⟨2048 * (s % 4) + b.val, by have := b.isLt; omega⟩ : Fin 8192) : S4096x8192.Idx) := pay1_apply _ k b

/-- The received plane holds device `c`'s rows of `x`, in the columns of the source's block. -/
theorem x_apply (c : Dev nD) (s : ℕ) (a k : Fin 1024) : (xs m c s (ix3 0 a k) : EReal)
    = x (ix2 (rowOf c a) (posOf (src c s) k)) := by
  have hi := Layout.idx_cols_val (dS := ![4096, 1024]) (dT := ![4096, 4096]) (k := 4) (by decide) (src c s)
      (ix2 (⟨1024 * c.val + a.val, by have h : c.val < 4 := c.isLt; have := a.isLt; omega⟩ : Fin 4096) k)
  refine (xs_apply c s a k).trans ((congrFun (h (src c s)).1 _).trans ?_)
  refine congrArg x (funext fun i => ?_)
  match i with
  | ⟨0, _⟩ => exact Fin.ext (hi.1.trans (congrArg (· + a.val) (Nat.mul_comm 1024 c.val)))
  | ⟨1, _⟩ => exact Fin.ext hi.2

/-- The cast block of `w` holds the source's rows and block `s % 4` of the columns. -/
theorem w_apply (c : Dev nD) (s : ℕ) (k : Fin 1024) (b : Fin 2048) : (wb m c s (ix3 0 k b) : EReal)
    = w (ix2 (posOf (src c s) k) (colOf s b)) := by
  refine (wb_apply c s k b).trans ((congrFun (h c).2 _).trans ?_)
  refine congrArg w (funext fun i => ?_)
  match i with
  | ⟨0, _⟩ => exact Fin.ext (congrArg (· + k.val) (Nat.mul_comm 1024 (src c s).val))
  | ⟨1, _⟩ => exact Fin.ext (congrArg (· + b.val) (Nat.mul_comm 2048 (s % 4)))

/-- One product of the kernel. -/
theorem product_apply (c : Dev nD) (s : ℕ) (a : Fin 1024) (b : Fin 2048) :
    (k0_pay3 (xs m c s) (wb m c s) (ix2 a b) : EReal) = piece x w (rowOf c a) (colOf s b) (src c s) := by
  rw [pay3_apply]
  unfold piece
  exact Finset.sum_congr rfl fun k _ => congrArg₂ (fun p q : EReal => p * q) (x_apply h c s a k) (w_apply h c s k b)

/-- Column blocks repeat with period four. -/
theorem colOf_add (n k : ℕ) (b : Fin 2048) : colOf (4 * k + n) b = colOf n b :=
  Fin.ext (by show (4 * k + n) % 4 * 2048 + b.val = n % 4 * 2048 + b.val; omega)

/-- Block `n` of a device's result: the four parts, in the order of the phases, cut off below zero. -/
theorem outV_apply (c : Dev nD) (n : ℕ) (hn : n < 4) (a : Fin 1024) (b : Fin 2048) :
    (outV m c n (ix2 a b) : EReal) = max (((piece x w (rowOf c a) (colOf n b) (pl c 0) + piece x w (rowOf c a) (colOf n b) (pl c 3))
      + piece x w (rowOf c a) (colOf n b) (pl c 1)) + piece x w (rowOf c a) (colOf n b) (pl c 2)) 0 := by
  have e (k : ℕ) : src c (4 * k + n) = pl c (ph k) := by
    unfold src
    rw [show (4 * k + n) / 4 = k by omega]
  have e0 : src c n = pl c (ph 0) := by
    unfold src
    rw [show n / 4 = 0 by omega]
  unfold outV
  rw [pay2_apply, accum, pay5_apply, accum, pay5_apply, accum, pay4_apply, show 12 + n = 4 * 3 + n from rfl]
  simp only [product_apply h, e, e0, colOf_add h]
  rfl

end Blocks

/-- The sum over the contracted axis, block by block. -/
theorem sum_pieces (x : (⟨2, ![4096, 4096]⟩ : Shape).Idx → EReal) (w : (⟨2, ![4096, 8192]⟩ : Shape).Idx → EReal) (c : Dev nD) (r : Fin 4096) (l : Fin 8192) :
    ∑ k : Fin 4096, x (ix2 r k) * w (ix2 k l) = ((piece x w r l (pl c 0) + piece x w r l (pl c 3)) + piece x w r l (pl c 1)) + piece x w r l (pl c 2) := by
  have h1 : ∑ k : Fin 4096, x (ix2 r k) * w (ix2 k l) = ∑ d : Fin 4, piece x w r l d := by
    rw [← Equiv.sum_comp (finProdFinEquiv : Fin 4 × Fin 1024 ≃ Fin (4 * 1024)), Fintype.sum_prod_type]
    refine Finset.sum_congr rfl fun d _ => Finset.sum_congr rfl fun k _ => ?_
    have e : (finProdFinEquiv (d, k) : Fin 4096) = posOf d k :=
      Fin.ext (by show k.val + 1024 * d.val = d.val * 1024 + k.val; omega)
    exact congrArg (fun j : Fin 4096 => x (ix2 r j) * w (ix2 j l)) e
  have hb : Function.Bijective (pl c : Fin 4 → Fin 4) := by revert c; decide
  rw [h1, ← Fintype.sum_bijective (pl c : Fin 4 → Fin 4) hb (fun k => piece x w r l (pl c k)) (fun d => piece x w r l d) (fun _ => rfl), Fin.sum_univ_four]
  ac_rfl

/-! ## The reference, at an index -/

/-- The reference's result, as its program computes it. -/
def refOut (x : (⟨2, ![4096, 4096]⟩ : Shape).Idx → EReal) (w : (⟨2, ![4096, 8192]⟩ : Shape).Idx → EReal) :
    FVec Ideal Cert.ReferenceIdeal.S4096x8192 .bf16 :=
  truncf .bf16 (maximumf (Host.dotGeneral (F := Ideal) Cert.ReferenceIdeal.dot_S4096x4096_S4096x8192_S4096x8192_1_0_0_1_n_n none
      (extf .f32 (x : FVec Ideal Cert.ReferenceIdeal.S4096x4096 .bf16) Cert.ReferenceIdeal.Facts₀.bitsLt_bf16_f32)
      (extf .f32 (w : FVec Ideal Cert.ReferenceIdeal.S4096x8192 .bf16) Cert.ReferenceIdeal.Facts₀.bitsLt_bf16_f32))
    (broadcastInDim Cert.ReferenceIdeal.S4096x8192 ![] Cert.ReferenceIdeal.Facts₀.bcast_S_S4096x8192 (constant (F := Ideal) Cert.ReferenceIdeal.S_ .f32 0x00000000#32)))
    Cert.ReferenceIdeal.Facts₀.bitsLt_bf16_f32

/-- An entry of the reference's result: the whole sum of products, cut off below zero. -/
theorem refOut_apply (x : (⟨2, ![4096, 4096]⟩ : Shape).Idx → EReal) (w : (⟨2, ![4096, 8192]⟩ : Shape).Idx → EReal) (r : Fin 4096) (l : Fin 8192) :
    (refOut x w (ix2 r l) : EReal) = max (∑ k : Fin 4096, x (ix2 r k) * w (ix2 k l)) 0 := by
  unfold refOut
  refine congrArg₂ (fun p q : EReal => max p q) ?_ Ideal.ofBits_zero_f32
  exact StackMember.dotGeneral_plain_apply (m := 4096) (k := 4096) (n := 8192) none (φ₁ := .f32) (φ₂ := .f32) x w r l

/-! ## The result array -/

/-- From grid point 13 on the output block moves on by one; before, it is the first. -/
theorem out_index (c : Dev nD) (t : Fin grid0.N) : ((cfg0 (adm (F := Ideal) c)).win 1).index t = ![0, t.val - 13] := by
  have h : ∀ t : Fin grid0.N, cc0_transform_2 (grid0.coords t) = ![0, t.val - 13] := by decide +kernel
  exact h t

/-- Where an index of the block of a grid point lies in the result array. -/
def outAt (c : Dev nD) (t : Fin grid0.N) (y : S1024x2048.Idx) : S1024x8192.Idx :=
  (((cfg0 (adm (F := Ideal) c)).win 1).rect t).emb y

/-- The blocks that the last four grid points write back cover the result array. -/
theorem out_cover (c : Dev nD) (i : S1024x8192.Idx) :
    ∃ t : Fin grid0.N, ((cfg0 (adm (F := Ideal) c)).win 1).flush t = true ∧ i ∈ (((cfg0 (adm (F := Ideal) c)).win 1).blk t).view.set := by
  have h1 : (i 1).val < 8192 := (i 1).isLt
  have h0 : (i 0).val < 1024 := (i 0).isLt
  refine ⟨(⟨13 + (i 1).val / 2048, by show _ < 17; omega⟩ : Fin grid0.N), ?_, ?_⟩
  · rw [out_flush]
    exact decide_eq_true (Nat.le_add_right _ _)
  · refine (((cfg0 (adm (F := Ideal) c)).win 1).emb_mem_blk_iff _ i rfl).mpr fun a => ?_
    rw [out_index]
    match a with
    | ⟨0, _⟩ =>
      show 0 * 1024 ≤ (i 0).val ∧ (i 0).val < 0 * 1024 + 1024
      omega
    | ⟨1, _⟩ =>
      show (13 + (i 1).val / 2048 - 13) * 2048 ≤ (i 1).val ∧ (i 1).val < (13 + (i 1).val / 2048 - 13) * 2048 + 2048
      omega

section Result

variable {m : (ℓ : Loc nD τ sig) → Buf (Elt Ideal) ℓ}
  {x : (⟨2, ![4096, 4096]⟩ : Shape).Idx → EReal} {w : (⟨2, ![4096, 8192]⟩ : Shape).Idx → EReal} (h : Held m x w)
include h

/-- What a write-back brings, at an index of its block. -/
theorem written_apply (c : Dev nD) (t : Fin grid0.N) (ht : 13 ≤ t.val) (a : Fin 1024) (b : Fin 2048) :
    (outV m c (t.val - 13) (ix2 a b) : EReal) = refOut x w (ix2 (rowOf c a) (colOf (t.val - 13) b)) := by
  have hN : t.val < 17 := t.isLt
  rw [outV_apply h c (t.val - 13) (by omega) a b, ← sum_pieces x w c, ← refOut_apply]

/-- What the last four grid points write back is the device's block of the reference's result. -/
theorem result_eq (c : Dev nD) : (dats (F := Ideal) m 0 c).arrAt 1 17 = Layout.block ⟨2, ![1024, 8192]⟩ ⟨2, ![4096, 8192]⟩ 0 4 c (refOut x w) := by
  refine (dats (F := Ideal) m 0 c).arrAt_eq_of_emb 1 _ (fun t hf y => ?_) (out_cover c)
  have ht : 13 ≤ t.val := by
    rw [out_flush] at hf
    exact of_decide_eq_true hf
  have hN : t.val < 17 := t.isLt
  obtain ⟨a, b, rfl⟩ : ∃ (a : Fin 1024) (b : Fin 2048), y = (ix2 a b : S1024x2048.Idx) :=
    ⟨(show S1024x2048.Idx from y) 0, (show S1024x2048.Idx from y) 1, eq_ix2 (show S1024x2048.Idx from y)⟩
  refine (written_apply h c t ht a b).trans (congrArg (refOut x w) (funext fun i => Fin.ext ?_))
  have he (i : Fin 2) : (outAt c t (ix2 a b) i).val = (![0, t.val - 13] : Fin 2 → ℕ) i * S1024x2048.size i + ((ix2 a b : S1024x2048.Idx) i).val := by
    rw [← out_index c t]
    exact Pipeline.Window.rect_emb_val ((cfg0 (adm (F := Ideal) c)).win 1) t (ix2 a b : S1024x2048.Idx) i rfl
  have hi := Layout.idx_rows_val (dS := ![1024, 8192]) (dT := ![4096, 8192]) (k := 4) (by decide) c (outAt c t (ix2 a b))
  have e0 : (outAt c t (ix2 a b) 0).val = a.val := by
    rw [he]
    show 0 * 1024 + a.val = a.val
    omega
  have e1 : (outAt c t (ix2 a b) 1).val = (t.val - 13) % 4 * 2048 + b.val := by
    rw [he, Nat.mod_eq_of_lt (show t.val - 13 < 4 by omega)]
    rfl
  match i with
  | ⟨0, _⟩ => exact ((hi.1.trans (congrArg (c.val * 1024 + ·) e0))).symm
  | ⟨1, _⟩ => exact (hi.2.trans e1).symm

end Result

end Cert.KernelIdeal.Fused

namespace Cert.Proof

open Idealize.ShloMosaic Idealize.SL.Sem

/-- Both programs run; each device's result is its block of the reference's; the arguments of both end unchanged. -/
theorem algebraic : Cert.algebraic_KernelIdeal_ReferenceIdeal := fun m ρ m' ρ' _ hm =>
  ⟨Cert.KernelIdeal.Fused.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (Cert.KernelIdeal.Fused.result_eq hm c), (h.1 c).1, (h.1 c).2.1⟩)
      (Cert.KernelIdeal.Fused.run_main (F := Ideal) m ρ),
    (θ_run Cert.ReferenceIdeal.defs _ _).mono (fun _ h => h 0) (Cert.ReferenceIdeal.Value.run m' ρ')⟩

end Cert.Proof

end
-- ==== Proof.lean ====
/-
  The certificate: the kernel's program, printed and idealized, and the reference's run without a fault and leave their
  arguments unchanged and every counter at zero; the idealized kernel is the kernel over the extended reals; and there each
  device's result is its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
